-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradReferenceIdeal (m : (ℓ : Loc Cert.WgradReferenceIdeal.nD Cert.WgradReferenceIdeal.τ Cert.WgradReferenceIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2)
      ∧ r.2.mem ((c.tc : Thread Cert.Wgrad.nD Cert.Wgrad.τ).loc Cert.Wgrad.main_arg3) = m ((c.tc : Thread Cert.Wgrad.nD Cert.Wgrad.τ).loc Cert.Wgrad.main_arg3)
      ∧ r.2.mem ((c.tc : Thread Cert.Wgrad.nD Cert.Wgrad.τ).loc Cert.Wgrad.main_arg4) = m ((c.tc : Thread Cert.Wgrad.nD Cert.Wgrad.τ).loc Cert.Wgrad.main_arg4))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
      ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
      ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4))
      ∧ r.2.sem = fun _ => 0)

def quiescent_WgradReferenceIdeal [hWgradReferenceIdeal : Cert.WgradReferenceIdeal.Facts] : Prop :=
  ∀ (m : (ℓ : Loc Cert.WgradReferenceIdeal.nD Cert.WgradReferenceIdeal.τ Cert.WgradReferenceIdeal.sig) → Buf (Elt Ideal) ℓ) (g : Dev Cert.WgradReferenceIdeal.nD → PrngReg), Pre_WgradReferenceIdeal m →
    θ_run (Cert.WgradReferenceIdeal.defs (F := Ideal)) (onTc (τ := Cert.WgradReferenceIdeal.τ) (Cert.WgradReferenceIdeal.main (F := Ideal))) ⟨m, fun _ => 0, g⟩ (fun r => (∀ c : Dev Cert.WgradReferenceIdeal.nD,
      r.2.mem ((c.tc : Thread Cert.WgradReferenceIdeal.nD Cert.WgradReferenceIdeal.τ).loc Cert.WgradReferenceIdeal.main_arg0) = m ((c.tc : Thread Cert.WgradReferenceIdeal.nD Cert.WgradReferenceIdeal.τ).loc Cert.WgradReferenceIdeal.main_arg0)
      ∧ r.2.mem ((c.tc : Thread Cert.WgradReferenceIdeal.nD Cert.WgradReferenceIdeal.τ).loc Cert.WgradReferenceIdeal.main_arg1) = m ((c.tc : Thread Cert.WgradReferenceIdeal.nD Cert.WgradReferenceIdeal.τ).loc Cert.WgradReferenceIdeal.main_arg1)
      ∧ r.2.mem ((c.tc : Thread Cert.WgradReferenceIdeal.nD Cert.WgradReferenceIdeal.τ).loc Cert.WgradReferenceIdeal.main_arg2) = m ((c.tc : Thread Cert.WgradReferenceIdeal.nD Cert.WgradReferenceIdeal.τ).loc Cert.WgradReferenceIdeal.main_arg2)
      ∧ r.2.mem ((c.tc : Thread Cert.WgradReferenceIdeal.nD Cert.WgradReferenceIdeal.τ).loc Cert.WgradReferenceIdeal.main_arg3) = m ((c.tc : Thread Cert.WgradReferenceIdeal.nD Cert.WgradReferenceIdeal.τ).loc Cert.WgradReferenceIdeal.main_arg3)
      ∧ r.2.mem ((c.tc : Thread Cert.WgradReferenceIdeal.nD Cert.WgradReferenceIdeal.τ).loc Cert.WgradReferenceIdeal.main_arg4) = m ((c.tc : Thread Cert.WgradReferenceIdeal.nD Cert.WgradReferenceIdeal.τ).loc Cert.WgradReferenceIdeal.main_arg4))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Wgrad_WgradIdeal : Prop :=
  True

def algebraic_WgradIdeal_WgradReferenceIdeal [hWgradIdeal : Cert.WgradIdeal.Facts] [hWgradReferenceIdeal : Cert.WgradReferenceIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradReferenceIdeal.nD Cert.WgradReferenceIdeal.τ Cert.WgradReferenceIdeal.sig) → Buf (Elt Ideal) ℓ) (g' : Dev Cert.WgradReferenceIdeal.nD → PrngReg), Pre_WgradIdeal m →
    (∀ c : Dev Cert.WgradIdeal.nD,
      m' ((c.tc : Thread Cert.WgradReferenceIdeal.nD Cert.WgradReferenceIdeal.τ).loc Cert.WgradReferenceIdeal.main_arg0) = m ((c.tc : Thread Cert.WgradIdeal.nD Cert.WgradIdeal.τ).loc Cert.WgradIdeal.main_arg0)
      ∧ m' ((c.tc : Thread Cert.WgradReferenceIdeal.nD Cert.WgradReferenceIdeal.τ).loc Cert.WgradReferenceIdeal.main_arg1) = m ((c.tc : Thread Cert.WgradIdeal.nD Cert.WgradIdeal.τ).loc Cert.WgradIdeal.main_arg1)
      ∧ m' ((c.tc : Thread Cert.WgradReferenceIdeal.nD Cert.WgradReferenceIdeal.τ).loc Cert.WgradReferenceIdeal.main_arg2) = m ((c.tc : Thread Cert.WgradIdeal.nD Cert.WgradIdeal.τ).loc Cert.WgradIdeal.main_arg2)
      ∧ m' ((c.tc : Thread Cert.WgradReferenceIdeal.nD Cert.WgradReferenceIdeal.τ).loc Cert.WgradReferenceIdeal.main_arg3) = m ((c.tc : Thread Cert.WgradIdeal.nD Cert.WgradIdeal.τ).loc Cert.WgradIdeal.main_arg3)
      ∧ m' ((c.tc : Thread Cert.WgradReferenceIdeal.nD Cert.WgradReferenceIdeal.τ).loc Cert.WgradReferenceIdeal.main_arg4) = m ((c.tc : Thread Cert.WgradIdeal.nD Cert.WgradIdeal.τ).loc Cert.WgradIdeal.main_arg4)) →
    ∃ (v0 : (c : Dev Cert.WgradIdeal.nD) → Buf (Elt Ideal) ((c.tc : Thread Cert.WgradIdeal.nD Cert.WgradIdeal.τ).loc Cert.WgradIdeal.main_v0_0)) (v1 : (c : Dev Cert.WgradIdeal.nD) → Buf (Elt Ideal) ((c.tc : Thread Cert.WgradIdeal.nD Cert.WgradIdeal.τ).loc Cert.WgradIdeal.main_v0_1)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0_0) = v0 c
          ∧ r.2.mem ((c.tc : Thread Cert.WgradIdeal.nD Cert.WgradIdeal.τ).loc Cert.WgradIdeal.main_v0_1) = v1 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
          ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
          ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4))
      ∧ θ_run (Cert.WgradReferenceIdeal.defs (F := Ideal)) (onTc (τ := Cert.WgradReferenceIdeal.τ) (Cert.WgradReferenceIdeal.main (F := Ideal))) ⟨m', fun _ => 0, g'⟩ (fun r => ∀ c : Dev Cert.WgradReferenceIdeal.nD,
          r.2.mem ((c.tc : Thread Cert.WgradReferenceIdeal.nD Cert.WgradReferenceIdeal.τ).loc Cert.WgradReferenceIdeal.main_v0_0) = v0 c
          ∧ r.2.mem ((c.tc : Thread Cert.WgradReferenceIdeal.nD Cert.WgradReferenceIdeal.τ).loc Cert.WgradReferenceIdeal.main_v0_1) = v1 c
          ∧ r.2.mem ((c.tc : Thread Cert.WgradReferenceIdeal.nD Cert.WgradReferenceIdeal.τ).loc Cert.WgradReferenceIdeal.main_arg0) = m' ((c.tc : Thread Cert.WgradReferenceIdeal.nD Cert.WgradReferenceIdeal.τ).loc Cert.WgradReferenceIdeal.main_arg0)
          ∧ r.2.mem ((c.tc : Thread Cert.WgradReferenceIdeal.nD Cert.WgradReferenceIdeal.τ).loc Cert.WgradReferenceIdeal.main_arg1) = m' ((c.tc : Thread Cert.WgradReferenceIdeal.nD Cert.WgradReferenceIdeal.τ).loc Cert.WgradReferenceIdeal.main_arg1)
          ∧ r.2.mem ((c.tc : Thread Cert.WgradReferenceIdeal.nD Cert.WgradReferenceIdeal.τ).loc Cert.WgradReferenceIdeal.main_arg2) = m' ((c.tc : Thread Cert.WgradReferenceIdeal.nD Cert.WgradReferenceIdeal.τ).loc Cert.WgradReferenceIdeal.main_arg2)
          ∧ r.2.mem ((c.tc : Thread Cert.WgradReferenceIdeal.nD Cert.WgradReferenceIdeal.τ).loc Cert.WgradReferenceIdeal.main_arg3) = m' ((c.tc : Thread Cert.WgradReferenceIdeal.nD Cert.WgradReferenceIdeal.τ).loc Cert.WgradReferenceIdeal.main_arg3)
          ∧ r.2.mem ((c.tc : Thread Cert.WgradReferenceIdeal.nD Cert.WgradReferenceIdeal.τ).loc Cert.WgradReferenceIdeal.main_arg4) = m' ((c.tc : Thread Cert.WgradReferenceIdeal.nD Cert.WgradReferenceIdeal.τ).loc Cert.WgradReferenceIdeal.main_arg4))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)
      ∧ m' ((c.tc : Thread Cert.ModReferenceIdeal.nD Cert.ModReferenceIdeal.τ).loc Cert.ModReferenceIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v0_0)) (v1 : (c : Dev Cert.ModIdeal.nD) → Buf (Elt Ideal) ((c.tc : Thread Cert.ModIdeal.nD Cert.ModIdeal.τ).loc Cert.ModIdeal.main_v0_1)) (v2 : (c : Dev Cert.ModIdeal.nD) → Buf (Elt Ideal) ((c.tc : Thread Cert.ModIdeal.nD Cert.ModIdeal.τ).loc Cert.ModIdeal.main_v0_2)) (v3 : (c : Dev Cert.ModIdeal.nD) → Buf (Elt Ideal) ((c.tc : Thread Cert.ModIdeal.nD Cert.ModIdeal.τ).loc Cert.ModIdeal.main_v0_3)) (v4 : (c : Dev Cert.ModIdeal.nD) → Buf (Elt Ideal) ((c.tc : Thread Cert.ModIdeal.nD Cert.ModIdeal.τ).loc Cert.ModIdeal.main_v0_4)) (v5 : (c : Dev Cert.ModIdeal.nD) → Buf (Elt Ideal) ((c.tc : Thread Cert.ModIdeal.nD Cert.ModIdeal.τ).loc Cert.ModIdeal.main_v0_5)) (v6 : (c : Dev Cert.ModIdeal.nD) → Buf (Elt Ideal) ((c.tc : Thread Cert.ModIdeal.nD Cert.ModIdeal.τ).loc Cert.ModIdeal.main_v0_6)) (v7 : (c : Dev Cert.ModIdeal.nD) → Buf (Elt Ideal) ((c.tc : Thread Cert.ModIdeal.nD Cert.ModIdeal.τ).loc Cert.ModIdeal.main_v0_7)) (v8 : (c : Dev Cert.ModIdeal.nD) → Buf (Elt Ideal) ((c.tc : Thread Cert.ModIdeal.nD Cert.ModIdeal.τ).loc Cert.ModIdeal.main_v0_8)) (v9 : (c : Dev Cert.ModIdeal.nD) → Buf (Elt Ideal) ((c.tc : Thread Cert.ModIdeal.nD Cert.ModIdeal.τ).loc Cert.ModIdeal.main_v0_9)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v0_0) = v0 c
          ∧ r.2.mem ((c.tc : Thread Cert.ModIdeal.nD Cert.ModIdeal.τ).loc Cert.ModIdeal.main_v0_1) = v1 c
          ∧ r.2.mem ((c.tc : Thread Cert.ModIdeal.nD Cert.ModIdeal.τ).loc Cert.ModIdeal.main_v0_2) = v2 c
          ∧ r.2.mem ((c.tc : Thread Cert.ModIdeal.nD Cert.ModIdeal.τ).loc Cert.ModIdeal.main_v0_3) = v3 c
          ∧ r.2.mem ((c.tc : Thread Cert.ModIdeal.nD Cert.ModIdeal.τ).loc Cert.ModIdeal.main_v0_4) = v4 c
          ∧ r.2.mem ((c.tc : Thread Cert.ModIdeal.nD Cert.ModIdeal.τ).loc Cert.ModIdeal.main_v0_5) = v5 c
          ∧ r.2.mem ((c.tc : Thread Cert.ModIdeal.nD Cert.ModIdeal.τ).loc Cert.ModIdeal.main_v0_6) = v6 c
          ∧ r.2.mem ((c.tc : Thread Cert.ModIdeal.nD Cert.ModIdeal.τ).loc Cert.ModIdeal.main_v0_7) = v7 c
          ∧ r.2.mem ((c.tc : Thread Cert.ModIdeal.nD Cert.ModIdeal.τ).loc Cert.ModIdeal.main_v0_8) = v8 c
          ∧ r.2.mem ((c.tc : Thread Cert.ModIdeal.nD Cert.ModIdeal.τ).loc Cert.ModIdeal.main_v0_9) = v9 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v10) = v0 c
          ∧ r.2.mem ((c.tc : Thread Cert.ModReferenceIdeal.nD Cert.ModReferenceIdeal.τ).loc Cert.ModReferenceIdeal.main_v20) = v1 c
          ∧ r.2.mem ((c.tc : Thread Cert.ModReferenceIdeal.nD Cert.ModReferenceIdeal.τ).loc Cert.ModReferenceIdeal.main_v21) = v2 c
          ∧ r.2.mem ((c.tc : Thread Cert.ModReferenceIdeal.nD Cert.ModReferenceIdeal.τ).loc Cert.ModReferenceIdeal.main_v22) = v3 c
          ∧ r.2.mem ((c.tc : Thread Cert.ModReferenceIdeal.nD Cert.ModReferenceIdeal.τ).loc Cert.ModReferenceIdeal.main_v23) = v4 c
          ∧ r.2.mem ((c.tc : Thread Cert.ModReferenceIdeal.nD Cert.ModReferenceIdeal.τ).loc Cert.ModReferenceIdeal.main_v24) = v5 c
          ∧ r.2.mem ((c.tc : Thread Cert.ModReferenceIdeal.nD Cert.ModReferenceIdeal.τ).loc Cert.ModReferenceIdeal.main_v25) = v6 c
          ∧ r.2.mem ((c.tc : Thread Cert.ModReferenceIdeal.nD Cert.ModReferenceIdeal.τ).loc Cert.ModReferenceIdeal.main_v26) = v7 c
          ∧ r.2.mem ((c.tc : Thread Cert.ModReferenceIdeal.nD Cert.ModReferenceIdeal.τ).loc Cert.ModReferenceIdeal.main_v27) = v8 c
          ∧ r.2.mem ((c.tc : Thread Cert.ModReferenceIdeal.nD Cert.ModReferenceIdeal.τ).loc Cert.ModReferenceIdeal.main_v28) = v9 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3))

def Claim : Prop :=
  ∃ (hKernel : Cert.Kernel.Facts) (hKernelIdeal : Cert.KernelIdeal.Facts) (hReferenceIdeal : Cert.ReferenceIdeal.Facts) (hWgrad : Cert.Wgrad.Facts) (hWgradIdeal : Cert.WgradIdeal.Facts) (hWgradReferenceIdeal : Cert.WgradReferenceIdeal.Facts) (hMod : Cert.Mod.Facts) (hModIdeal : Cert.ModIdeal.Facts) (hModReferenceIdeal : Cert.ModReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Wgrad (hWgrad := hWgrad)
    ∧ quiescent_WgradIdeal (hWgradIdeal := hWgradIdeal)
    ∧ quiescent_WgradReferenceIdeal (hWgradReferenceIdeal := hWgradReferenceIdeal)
    ∧ quiescent_Mod (hMod := hMod)
    ∧ quiescent_ModIdeal (hModIdeal := hModIdeal)
    ∧ quiescent_ModReferenceIdeal (hModReferenceIdeal := hModReferenceIdeal)
    ∧ preserves_Kernel_KernelIdeal
    ∧ algebraic_KernelIdeal_ReferenceIdeal (hKernelIdeal := hKernelIdeal) (hReferenceIdeal := hReferenceIdeal)
    ∧ preserves_Wgrad_WgradIdeal
    ∧ algebraic_WgradIdeal_WgradReferenceIdeal (hWgradIdeal := hWgradIdeal) (hWgradReferenceIdeal := hWgradReferenceIdeal)
    ∧ preserves_Mod_ModIdeal
    ∧ algebraic_ModIdeal_ModReferenceIdeal (hModIdeal := hModIdeal) (hModReferenceIdeal := hModReferenceIdeal)
-- ==== Kernel.lean ====
abbrev S8 : Shape := ⟨1, ![8]⟩
abbrev S1 : Shape := ⟨1, ![1]⟩
abbrev S1024x1152 : Shape := ⟨2, ![1024, 1152]⟩
abbrev S1152x4608 : Shape := ⟨2, ![1152, 4608]⟩
abbrev S4608 : Shape := ⟨1, ![4608]⟩
abbrev S4608x1152 : Shape := ⟨2, ![4608, 1152]⟩
abbrev S1024x4608 : Shape := ⟨2, ![1024, 4608]⟩
abbrev S2x8x128 : Shape := ⟨3, ![2, 8, 128]⟩
abbrev S1152x512 : Shape := ⟨2, ![1152, 512]⟩
abbrev S512x1152 : Shape := ⟨2, ![512, 1152]⟩
abbrev S1024x512 : Shape := ⟨2, ![1024, 512]⟩
abbrev S1152x1024 : Shape := ⟨2, ![1152, 1024]⟩
abbrev S9x1x512 : Shape := ⟨3, ![9, 1, 512]⟩
abbrev S512 : Shape := ⟨1, ![512]⟩
abbrev S1x512 : Shape := ⟨2, ![1, 512]⟩
abbrev S1x1x512 : Shape := ⟨3, ![1, 1, 512]⟩
abbrev S512x128 : Shape := ⟨2, ![512, 128]⟩
abbrev S512x1280 : Shape := ⟨2, ![512, 1280]⟩
abbrev S256x1152 : Shape := ⟨2, ![256, 1152]⟩
abbrev S256x512 : Shape := ⟨2, ![256, 512]⟩
abbrev S1x8x128 : Shape := ⟨3, ![1, 8, 128]⟩
abbrev S8x128 : Shape := ⟨2, ![8, 128]⟩
abbrev S32x8x512 : Shape := ⟨3, ![32, 8, 512]⟩
abbrev S8x512 : Shape := ⟨2, ![8, 512]⟩
abbrev S256x1280 : Shape := ⟨2, ![256, 1280]⟩

abbrev nBuf : Space → Nat
  | .hbm => 15
  | .vmem => 20
  | .smem => 3
  | _ => 0

abbrev bufTy : (tb : Table) → Fin (tcTables nBuf tb) → BufTy
  | .hbm, ⟨0, _⟩ => ⟨S8, .f32⟩
  | .hbm, ⟨1, _⟩ => ⟨S1, .f32⟩
  | .hbm, ⟨2, _⟩ => ⟨S1, .f32⟩
  | .hbm, ⟨3, _⟩ => ⟨S1024x1152, .fp8e4m3⟩
  | .hbm, ⟨4, _⟩ => ⟨S1024x1152, .fp8e5m2⟩
  | .hbm, ⟨5, _⟩ => ⟨S1152x4608, .fp8e4m3⟩
  | .hbm, ⟨6, _⟩ => ⟨S4608, .f32⟩
  | .hbm, ⟨7, _⟩ => ⟨S4608x1152, .fp8e4m3⟩
  | .hbm, ⟨8, _⟩ => ⟨S1024x4608, .fp8e4m3⟩
  | .hbm, ⟨9, _⟩ => ⟨S1024x4608, .fp8e5m2⟩
  | .hbm, ⟨10, _⟩ => ⟨S1024x1152, .f32⟩
  | .hbm, ⟨11, _⟩ => ⟨S1024x1152, .f32⟩
  | .hbm, ⟨12, _⟩ => ⟨S1152x4608, .f32⟩
  | .hbm, ⟨13, _⟩ => ⟨S4608x1152, .f32⟩
  | .hbm, ⟨14, _⟩ => ⟨S2x8x128, .f32⟩
  | .local _ .vmem, ⟨0, _⟩ => ⟨S1024x1152, .fp8e4m3⟩
  | .local _ .vmem, ⟨1, _⟩ => ⟨S1024x1152, .fp8e5m2⟩
  | .local _ .vmem, ⟨2, _⟩ => ⟨S1152x512, .fp8e4m3⟩
  | .local _ .vmem, ⟨3, _⟩ => ⟨S1152x512, .fp8e4m3⟩
  | .local _ .vmem, ⟨4, _⟩ => ⟨S4608, .f32⟩
  | .local _ .vmem, ⟨5, _⟩ => ⟨S512x1152, .fp8e4m3⟩
  | .local _ .vmem, ⟨6, _⟩ => ⟨S512x1152, .fp8e4m3⟩
  | .local _ .vmem, ⟨7, _⟩ => ⟨S1024x512, .fp8e4m3⟩
  | .local _ .vmem, ⟨8, _⟩ => ⟨S1024x512, .fp8e4m3⟩
  | .local _ .vmem, ⟨9, _⟩ => ⟨S1024x512, .fp8e5m2⟩
  | .local _ .vmem, ⟨10, _⟩ => ⟨S1024x512, .fp8e5m2⟩
  | .local _ .vmem, ⟨11, _⟩ => ⟨S1024x1152, .f32⟩
  | .local _ .vmem, ⟨12, _⟩ => ⟨S1024x1152, .f32⟩
  | .local _ .vmem, ⟨13, _⟩ => ⟨S1152x512, .f32⟩
  | .local _ .vmem, ⟨14, _⟩ => ⟨S1152x512, .f32⟩
  | .local _ .vmem, ⟨15, _⟩ => ⟨S512x1152, .f32⟩
  | .local _ .vmem, ⟨16, _⟩ => ⟨S512x1152, .f32⟩
  | .local _ .vmem, ⟨17, _⟩ => ⟨S2x8x128, .f32⟩
  | .local _ .vmem, ⟨18, _⟩ => ⟨S1152x1024, .fp8e4m3⟩
  | .local _ .vmem, ⟨19, _⟩ => ⟨S9x1x512, .f32⟩
  | .local _ .smem, ⟨0, _⟩ => ⟨S8, .f32⟩
  | .local _ .smem, ⟨1, _⟩ => ⟨S1, .f32⟩
  | .local _ .smem, ⟨2, _⟩ => ⟨S1, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg7_1 : Ref sig .tc := ⟨.vmem, 6, rfl⟩
abbrev cc0_stg8_0 : Ref sig .tc := ⟨.vmem, 7, rfl⟩
abbrev cc0_stg8_1 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_scratch0 : Ref sig .tc := ⟨.vmem, 18, rfl⟩
abbrev cc0_scratch1 : Ref sig .tc := ⟨.vmem, 19, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20

abbrev nD : Nat := 1
abbrev τ : Topo := Topo.v7x

variable {F : FTy → Type} [FloatOps F]

abbrev grid0 : Pipeline.Grid := ⟨1, ![9], ![false]⟩

def k0_off1 (i : grid0.Coords) : Fin 3 → Nat :=
  let arg0 : BitVec 32 := BitVec.ofNat 32 (i 0).val
  let v7 : Index := Scalar.indexCast arg0
  let c0_4 : Index := 0#32
  let c0_5 : Index := 0#32
  ![v7.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1152 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1152 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1152x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1152 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1152 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1152 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1152x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1152 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S2x8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S8 : Shape := ⟨1, ![8]⟩
abbrev S1 : Shape := ⟨1, ![1]⟩
abbrev S1024x1152 : Shape := ⟨2, ![1024, 1152]⟩
abbrev S1152x4608 : Shape := ⟨2, ![1152, 4608]⟩
abbrev S4608 : Shape := ⟨1, ![4608]⟩
abbrev S4608x1152 : Shape := ⟨2, ![4608, 1152]⟩
abbrev S1024x4608 : Shape := ⟨2, ![1024, 4608]⟩
abbrev S2x8x128 : Shape := ⟨3, ![2, 8, 128]⟩
abbrev S1x4608 : Shape := ⟨2, ![1, 4608]⟩
abbrev S128x8x4608 : Shape := ⟨3, ![128, 8, 4608]⟩
abbrev S8x4608 : Shape := ⟨2, ![8, 4608]⟩
abbrev S8x36x128 : Shape := ⟨3, ![8, 36, 128]⟩
abbrev S8x128 : Shape := ⟨2, ![8, 128]⟩
abbrev S1x8x128 : Shape := ⟨3, ![1, 8, 128]⟩

abbrev nBuf : Space → Nat
  | .hbm => 15
  | .vmem => 12
  | .smem => 3
  | _ => 0

abbrev bufTy : (tb : Table) → Fin (tcTables nBuf tb) → BufTy
  | .hbm, ⟨0, _⟩ => ⟨S8, .f32⟩
  | .hbm, ⟨1, _⟩ => ⟨S1, .f32⟩
  | .hbm, ⟨2, _⟩ => ⟨S1, .f32⟩
  | .hbm, ⟨3, _⟩ => ⟨S1024x1152, .fp8e4m3⟩
  | .hbm, ⟨4, _⟩ => ⟨S1024x1152, .fp8e5m2⟩
  | .hbm, ⟨5, _⟩ => ⟨S1152x4608, .fp8e4m3⟩
  | .hbm, ⟨6, _⟩ => ⟨S4608, .f32⟩
  | .hbm, ⟨7, _⟩ => ⟨S4608x1152, .fp8e4m3⟩
  | .hbm, ⟨8, _⟩ => ⟨S1024x4608, .fp8e4m3⟩
  | .hbm, ⟨9, _⟩ => ⟨S1024x4608, .fp8e5m2⟩
  | .hbm, ⟨10, _⟩ => ⟨S1024x1152, .f32⟩
  | .hbm, ⟨11, _⟩ => ⟨S1024x1152, .f32⟩
  | .hbm, ⟨12, _⟩ => ⟨S1152x4608, .f32⟩
  | .hbm, ⟨13, _⟩ => ⟨S4608x1152, .f32⟩
  | .hbm, ⟨14, _⟩ => ⟨S2x8x128, .f32⟩
  | .local _ .vmem, ⟨0, _⟩ => ⟨S1024x1152, .fp8e4m3⟩
  | .local _ .vmem, ⟨1, _⟩ => ⟨S1024x1152, .fp8e5m2⟩
  | .local _ .vmem, ⟨2, _⟩ => ⟨S1152x4608, .fp8e4m3⟩
  | .local _ .vmem, ⟨3, _⟩ => ⟨S4608, .f32⟩
  | .local _ .vmem, ⟨4, _⟩ => ⟨S4608x1152, .fp8e4m3⟩
  | .local _ .vmem, ⟨5, _⟩ => ⟨S1024x4608, .fp8e4m3⟩
  | .local _ .vmem, ⟨6, _⟩ => ⟨S1024x4608, .fp8e5m2⟩
  | .local _ .vmem, ⟨7, _⟩ => ⟨S1024x1152, .f32⟩
  | .local _ .vmem, ⟨8, _⟩ => ⟨S1024x1152, .f32⟩
  | .local _ .vmem, ⟨9, _⟩ => ⟨S1152x4608, .f32⟩
  | .local _ .vmem, ⟨10, _⟩ => ⟨S4608x1152, .f32⟩
  | .local _ .vmem, ⟨11, _⟩ => ⟨S2x8x128, .f32⟩
  | .local _ .smem, ⟨0, _⟩ => ⟨S8, .f32⟩
  | .local _ .smem, ⟨1, _⟩ => ⟨S1, .f32⟩
  | .local _ .smem, ⟨2, _⟩ => ⟨S1, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg10_0 : Ref sig .tc := ⟨.vmem, 7, rfl⟩
abbrev cc0_stg11_0 : Ref sig .tc := ⟨.vmem, 8, rfl⟩
abbrev cc0_stg12_0 : Ref sig .tc := ⟨.vmem, 9, rfl⟩
abbrev cc0_stg13_0 : Ref sig .tc := ⟨.vmem, 10, rfl⟩
abbrev cc0_stg14_0 : Ref sig .tc := ⟨.vmem, 11, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1152 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1152 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1152x4608 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4608x1152 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x4608 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x4608 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x1152 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x1152 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1152x4608 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4608x1152 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Wgrad.lean ====
abbrev S8 : Shape := ⟨1, ![8]⟩
abbrev S1024x1152 : Shape := ⟨2, ![1024, 1152]⟩
abbrev S1024x3456 : Shape := ⟨2, ![1024, 3456]⟩
abbrev S1152x3456 : Shape := ⟨2, ![1152, 3456]⟩
abbrev S1152x1152 : Shape := ⟨2, ![1152, 1152]⟩
abbrev S1024x384 : Shape := ⟨2, ![1024, 384]⟩
abbrev S1152x384 : Shape := ⟨2, ![1152, 384]⟩
abbrev S1152x1024 : Shape := ⟨2, ![1152, 1024]⟩
abbrev S1 : Shape := ⟨1, ![1]⟩

abbrev nBuf : Space → Nat
  | .hbm => 7
  | .vmem => 9
  | .smem => 1
  | _ => 0

abbrev bufTy : (tb : Table) → Fin (tcTables nBuf tb) → BufTy
  | .hbm, ⟨0, _⟩ => ⟨S8, .f32⟩
  | .hbm, ⟨1, _⟩ => ⟨S1024x1152, .fp8e4m3⟩
  | .hbm, ⟨2, _⟩ => ⟨S1024x1152, .fp8e4m3⟩
  | .hbm, ⟨3, _⟩ => ⟨S1024x3456, .fp8e5m2⟩
  | .hbm, ⟨4, _⟩ => ⟨S1024x1152, .fp8e5m2⟩
  | .hbm, ⟨5, _⟩ => ⟨S1152x3456, .f32⟩
  | .hbm, ⟨6, _⟩ => ⟨S1152x1152, .f32⟩
  | .local _ .vmem, ⟨0, _⟩ => ⟨S1024x1152, .fp8e4m3⟩
  | .local _ .vmem, ⟨1, _⟩ => ⟨S1024x1152, .fp8e4m3⟩
  | .local _ .vmem, ⟨2, _⟩ => ⟨S1024x384, .fp8e5m2⟩
  | .local _ .vmem, ⟨3, _⟩ => ⟨S1024x384, .fp8e5m2⟩
  | .local _ .vmem, ⟨4, _⟩ => ⟨S1024x1152, .fp8e5m2⟩
  | .local _ .vmem, ⟨5, _⟩ => ⟨S1152x384, .f32⟩
  | .local _ .vmem, ⟨6, _⟩ => ⟨S1152x384, .f32⟩
  | .local _ .vmem, ⟨7, _⟩ => ⟨S1152x1152, .f32⟩
  | .local _ .vmem, ⟨8, _⟩ => ⟨S1152x1024, .fp8e4m3⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1152 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x384 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1152 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1152x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1152x1152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== WgradReferenceIdeal.lean ====
abbrev S8 : Shape := ⟨1, ![8]⟩
abbrev S1024x1152 : Shape := ⟨2, ![1024, 1152]⟩
abbrev S1024x3456 : Shape := ⟨2, ![1024, 3456]⟩
abbrev S1152x3456 : Shape := ⟨2, ![1152, 3456]⟩
abbrev S1152x1152 : Shape := ⟨2, ![1152, 1152]⟩
abbrev S1 : Shape := ⟨1, ![1]⟩

abbrev nBuf : Space → Nat
  | .hbm => 7
  | .vmem => 6
  | .smem => 1
  | _ => 0

abbrev bufTy : (tb : Table) → Fin (tcTables nBuf tb) → BufTy
  | .hbm, ⟨0, _⟩ => ⟨S8, .f32⟩
  | .hbm, ⟨1, _⟩ => ⟨S1024x1152, .fp8e4m3⟩
  | .hbm, ⟨2, _⟩ => ⟨S1024x1152, .fp8e4m3⟩
  | .hbm, ⟨3, _⟩ => ⟨S1024x3456, .fp8e5m2⟩
  | .hbm, ⟨4, _⟩ => ⟨S1024x1152, .fp8e5m2⟩
  | .hbm, ⟨5, _⟩ => ⟨S1152x3456, .f32⟩
  | .hbm, ⟨6, _⟩ => ⟨S1152x1152, .f32⟩
  | .local _ .vmem, ⟨0, _⟩ => ⟨S1024x1152, .fp8e4m3⟩
  | .local _ .vmem, ⟨1, _⟩ => ⟨S1024x1152, .fp8e4m3⟩
  | .local _ .vmem, ⟨2, _⟩ => ⟨S1024x3456, .fp8e5m2⟩
  | .local _ .vmem, ⟨3, _⟩ => ⟨S1024x1152, .fp8e5m2⟩
  | .local _ .vmem, ⟨4, _⟩ => ⟨S1152x3456, .f32⟩
  | .local _ .vmem, ⟨5, _⟩ => ⟨S1152x1152, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1152 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x3456 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1152 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1152x3456 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1152x1152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Mod.lean ====
abbrev S4x1152 : Shape := ⟨2, ![4, 1152]⟩
abbrev S1152x6912 : Shape := ⟨2, ![1152, 6912]⟩
abbrev S6912 : Shape := ⟨1, ![6912]⟩
abbrev S8x20 : Shape := ⟨2, ![8, 20]⟩
abbrev S4x6912 : Shape := ⟨2, ![4, 6912]⟩
abbrev S8 : Shape := ⟨1, ![8]⟩
abbrev S1 : Shape := ⟨1, ![1]⟩
abbrev S1152x768 : Shape := ⟨2, ![1152, 768]⟩
abbrev S4x768 : Shape := ⟨2, ![4, 768]⟩
abbrev S4x1152x128 : Shape := ⟨3, ![4, 1152, 128]⟩
abbrev S9x1x768 : Shape := ⟨3, ![9, 1, 768]⟩
abbrev S768 : Shape := ⟨1, ![768]⟩
abbrev S1x768 : Shape := ⟨2, ![1, 768]⟩
abbrev S1x1x768 : Shape := ⟨3, ![1, 1, 768]⟩
abbrev S1x128 : Shape := ⟨2, ![1, 128]⟩
abbrev S128x128 : Shape := ⟨2, ![128, 128]⟩
abbrev S1x128x128 : Shape := ⟨3, ![1, 128, 128]⟩
abbrev S8x1 : Shape := ⟨2, ![8, 1]⟩
abbrev S1x1 : Shape := ⟨2, ![1, 1]⟩
abbrev S8x768 : Shape := ⟨2, ![8, 768]⟩
abbrev S1x8x128 : Shape := ⟨3, ![1, 8, 128]⟩
abbrev S8x128 : Shape := ⟨2, ![8, 128]⟩

abbrev nBuf : Space → Nat
  | .hbm => 14
  | .vmem => 9
  | .smem => 9
  | _ => 0

abbrev bufTy : (tb : Table) → Fin (tcTables nBuf tb) → BufTy
  | .hbm, ⟨0, _⟩ => ⟨S4x1152, .f32⟩
  | .hbm, ⟨1, _⟩ => ⟨S1152x6912, .f32⟩
  | .hbm, ⟨2, _⟩ => ⟨S6912, .f32⟩
  | .hbm, ⟨3, _⟩ => ⟨S8x20, .f32⟩
  | .hbm, ⟨4, _⟩ => ⟨S4x6912, .f32⟩
  | .hbm, ⟨5, _⟩ => ⟨S8, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S1, .f32⟩
  | .hbm, ⟨13, _⟩ => ⟨S1, .f32⟩
  | .local _ .vmem, ⟨0, _⟩ => ⟨S4x1152, .f32⟩
  | .local _ .vmem, ⟨1, _⟩ => ⟨S1152x768, .f32⟩
  | .local _ .vmem, ⟨2, _⟩ => ⟨S1152x768, .f32⟩
  | .local _ .vmem, ⟨3, _⟩ => ⟨S6912, .f32⟩
  | .local _ .vmem, ⟨4, _⟩ => ⟨S8x20, .f32⟩
  | .local _ .vmem, ⟨5, _⟩ => ⟨S4x768, .f32⟩
  | .local _ .vmem, ⟨6, _⟩ => ⟨S4x768, .f32⟩
  | .local _ .vmem, ⟨7, _⟩ => ⟨S4x1152x128, .f32⟩
  | .local _ .vmem, ⟨8, _⟩ => ⟨S9x1x768, .f32⟩
  | .local _ .smem, ⟨0, _⟩ => ⟨S8, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | .local _ .smem, ⟨5, _⟩ => ⟨S1, .f32⟩
  | .local _ .smem, ⟨6, _⟩ => ⟨S1, .f32⟩
  | .local _ .smem, ⟨7, _⟩ => ⟨S1, .f32⟩
  | .local _ .smem, ⟨8, _⟩ => ⟨S1, .f32⟩
  | _, _ => ⟨S4x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v0_7 : Ref sig .tc := ⟨.hbm, 11, rfl⟩
abbrev main_v0_8 : Ref sig .tc := ⟨.hbm, 12, rfl⟩
abbrev main_v0_9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_stg5_0 : Ref sig .tc := ⟨.smem, 0, rfl⟩
abbrev cc0_stg6_0 : Ref sig .tc := ⟨.smem, 1, rfl⟩
abbrev cc0_stg7_0 : Ref sig .tc := ⟨.smem, 2, rfl⟩
abbrev cc0_stg8_0 : Ref sig .tc := ⟨.smem, 3, rfl⟩
abbrev cc0_stg9_0 : Ref sig .tc := ⟨.smem, 4, rfl⟩
abbrev cc0_stg10_0 : Ref sig .tc := ⟨.smem, 5, rfl⟩
abbrev cc0_stg11_0 : Ref sig .tc := ⟨.smem, 6, rfl⟩
abbrev cc0_stg12_0 : Ref sig .tc := ⟨.smem, 7, rfl⟩
abbrev cc0_stg13_0 : Ref sig .tc := ⟨.smem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15

abbrev nD : Nat := 1
abbrev τ : Topo := Topo.v7x

variable {F : FTy → Type} [FloatOps F]

abbrev grid0 : Pipeline.Grid := ⟨1, ![9], ![false]⟩

@[reducible] def k0_t1_loop : Scf.Loop 32 :=
  let c0_i32_4 : BitVec 32 := 0#32
  let c144_i32 : BitVec 32 := 144#32
  let v7 : BitVec 32 := Scalar.addi c0_i32_4 c144_i32
  let c1_i32 : BitVec 32 := 1#32
  ⟨c0_i32_4, v7, c1_i32⟩
def k0_mult1 (k0_t1 : Fin k0_t1_loop.trips) : BitVec 32 :=
  let c0_i32_4 : BitVec 32 := 0#32
  let c1_i32 : BitVec 32 := 1#32
  let arg17 : BitVec 32 := Scf.iv c0_i32_4 c1_i32 k0_t1
  let c8_i32 : BitVec 32 := 8#32
  let v24 : BitVec 32 := Scalar.muli arg17 c8_i32
  v24
def k0_off1 (k0_t1 : Fin k0_t1_loop.trips) : Fin 2 → Nat :=
  let c0_i32_4 : BitVec 32 := 0#32
  let c1_i32 : BitVec 32 := 1#32
  let arg17 : BitVec 32 := Scf.iv c0_i32_4 c1_i32 k0_t1
  let c8_i32 : BitVec 32 := 8#32
  let v24 : BitVec 32 := Scalar.muli arg17 c8_i32
  let v25 : BitVec 32 := v24
  let v26 : Index := Scalar.indexCast v25
  let c0_13 : Index := 0#32
  ![v26.toNat, 0]
def k0_off2 (k0_t1 : Fin k0_t1_loop.trips) : Fin 3 → Nat :=
  let c0_14 : Index := 0#32
  let c0_i32_4 : BitVec 32 := 0#32
  let c1_i32 : BitVec 32 := 1#32
  let arg17 : BitVec 32 := Scf.iv c0_i32_4 c1_i32 k0_t1
  let c8_i32 : BitVec 32 := 8#32
  let v24 : BitVec 32 := Scalar.muli arg17 c8_i32
  let v25 : BitVec 32 := v24
  let v28 : Index := Scalar.indexCast v25
  let c0_15 : Index := 0#32
  ![0, v28.toNat, 0]
def k0_off3 (k0_t1 : Fin k0_t1_loop.trips) : Fin 3 → Nat :=
  let c1 : Index := 1#32
  let c0_i32_4 : BitVec 32 := 0#32
  let c1_i32 : BitVec 32 := 1#32
  let arg17 : BitVec 32 := Scf.iv c0_i32_4 c1_i32 k0_t1
  let c8_i32 : BitVec 32 := 8#32
  let v24 : BitVec 32 := Scalar.muli arg17 c8_i32
  let v25 : BitVec 32 := v24
  let v34 : Index := Scalar.indexCast v25
  let c0_16 : Index := 0#32
  ![1, v34.toNat, 0]
def k0_off4 (k0_t1 : Fin k0_t1_loop.trips) : Fin 3 → Nat :=
  let c2 : Index := 2#32
  let c0_i32_4 : BitVec 32 := 0#32
  let c1_i32 : BitVec 32 := 1#32
  let arg17 : BitVec 32 := Scf.iv c0_i32_4 c1_i32 k0_t1
  let c8_i32 : BitVec 32 := 8#32
  let v24 : BitVec 32 := Scalar.muli arg17 c8_i32
  let v25 : BitVec 32 := v24
  let v40 : Index := Scalar.indexCast v25
  let c0_17 : Index := 0#32
  ![2, v40.toNat, 0]
def k0_off5 (k0_t1 : Fin k0_t1_loop.trips) : Fin 3 → Nat :=
  let c3 : Index := 3#32
  let c0_i32_4 : BitVec 32 := 0#32
  let c1_i32 : BitVec 32 := 1#32
  let arg17 : BitVec 32 := Scf.iv c0_i32_4 c1_i32 k0_t1
  let c8_i32 : BitVec 32 := 8#32
  let v24 : BitVec 32 := Scalar.muli arg17 c8_i32
  let v25 : BitVec 32 := v24
  let v46 : Index := Scalar.indexCast v25
  let c0_18 : Index := 0#32
  ![3, v46.toNat, 0]
def k0_off6 (i : grid0.Coords) : Fin 3 → Nat :=
  let arg0 : BitVec 32 := BitVec.ofNat 32 (i 0).val
  let v18 : Index := Scalar.indexCast arg0
  let c0 : Index := 0#32
  let c0_10 : Index := 0#32
  ![v18.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S4x1152 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1152x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6912 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .smem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .smem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .smem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ModReferenceIdeal.lean ====
abbrev S4x1152 : Shape := ⟨2, ![4, 1152]⟩
abbrev S1152x6912 : Shape := ⟨2, ![1152, 6912]⟩
abbrev S6912 : Shape := ⟨1, ![6912]⟩
abbrev S8x20 : Shape := ⟨2, ![8, 20]⟩
abbrev S_ : Shape := ⟨0, ![]⟩
abbrev S4x6912 : Shape := ⟨2, ![4, 6912]⟩
abbrev S1x6912 : Shape := ⟨2, ![1, 6912]⟩
abbrev S8 : Shape := ⟨1, ![8]⟩
abbrev S1 : Shape := ⟨1, ![1]⟩

abbrev nBuf : Space → Nat
  | .hbm => 45
  | .vmem => 0
  | .smem => 0
  | _ => 0

abbrev bufTy : (tb : Table) → Fin (tcTables nBuf tb) → BufTy
  | .hbm, ⟨0, _⟩ => ⟨S4x1152, .f32⟩
  | .hbm, ⟨1, _⟩ => ⟨S1152x6912, .f32⟩
  | .hbm, ⟨2, _⟩ => ⟨S6912, .f32⟩
  | .hbm, ⟨3, _⟩ => ⟨S8x20, .f32⟩
  | .hbm, ⟨4, _⟩ => ⟨S4x1152, .f32⟩
  | .hbm, ⟨5, _⟩ => ⟨S4x1152, .f32⟩
  | .hbm, ⟨6, _⟩ => ⟨S_, .f32⟩
  | .hbm, ⟨7, _⟩ => ⟨S4x1152, .f32⟩
  | .hbm, ⟨8, _⟩ => ⟨S4x1152, .f32⟩
  | .hbm, ⟨9, _⟩ => ⟨S_, .f32⟩
  | .hbm, ⟨10, _⟩ => ⟨S4x1152, .f32⟩
  | .hbm, ⟨11, _⟩ => ⟨S4x1152, .f32⟩
  | .hbm, ⟨12, _⟩ => ⟨S4x1152, .f32⟩
  | .hbm, ⟨13, _⟩ => ⟨S4x6912, .f32⟩
  | .hbm, ⟨14, _⟩ => ⟨S1x6912, .f32⟩
  | .hbm, ⟨15, _⟩ => ⟨S4x6912, .f32⟩
  | .hbm, ⟨16, _⟩ => ⟨S4x6912, .f32⟩
  | .hbm, ⟨17, _⟩ => ⟨S_, .f32⟩
  | .hbm, ⟨18, _⟩ => ⟨S8, .f32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i1⟩
  | .hbm, ⟨23, _⟩ => ⟨S_, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .i1⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S1, .f32⟩
  | .hbm, ⟨38, _⟩ => ⟨S1, .f32⟩
  | .hbm, ⟨39, _⟩ => ⟨S1, .f32⟩
  | .hbm, ⟨40, _⟩ => ⟨S1, .f32⟩
  | .hbm, ⟨41, _⟩ => ⟨S1, .f32⟩
  | .hbm, ⟨42, _⟩ => ⟨S1, .f32⟩
  | .hbm, ⟨43, _⟩ => ⟨S1, .f32⟩
  | .hbm, ⟨44, _⟩ => ⟨S1, .f32⟩
  | _, _ => ⟨S4x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_call1_v0 : Ref sig .tc := ⟨.hbm, 34, rfl⟩
abbrev main_call1_v1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proof.Spec.lean ====
/-
  What the MLP computes, over the extended reals and with no program in sight: the pre-activation, the tanh form of the
  gelu and its derivative, the two quantisers, the four products and the partial absolute maxima, each as a plain
  function of the argument entries. Both programs' results are read as these functions; nothing here knows about grids,
  blocks or buffers.
-/
module

public import Idealize.ShloMosaic.Lib.Pointwise

@[expose] public section

noncomputable section

namespace Cert.Mlp

open Idealize.ShloMosaic

/-- An entry of an affine map: the row `a` times the column `w`, scaled by `s`, plus `b`. -/
def lin {n : ℕ} (a w : Fin n → EReal) (s b : EReal) : EReal := (∑ k, a k * w k) * s + b

/-- An entry of a scaled product: the row `a` times the column `w`, scaled by `s`. -/
def prod {n : ℕ} (a w : Fin n → EReal) (s : EReal) : EReal := (∑ k, a k * w k) * s

/-- The tanh inside the gelu: `tanh (√(2/π) (u + 0.044715 u³))`, with the f32 constants. -/
def th (u : EReal) : EReal :=
  Ideal.tanh (Ideal.ofBits .f32 0x3F4C422A#32 * (u + Ideal.ofBits .f32 0x3D372713#32 * (u * u * u)))

/-- The gelu in its tanh form, `u / 2 · (1 + th u)`. -/
def act (u : EReal) : EReal := Ideal.ofBits .f32 0x3F000000#32 * u * (1 + th u)

/-- The derivative of the gelu: `(1 + t) / 2 + u / 2 · (1 - t²) · √(2/π) · (1 + 3 · 0.044715 u²)` at `t = th u`. -/
def dact (u : EReal) : EReal :=
  Ideal.ofBits .f32 0x3F000000#32 * (1 + th u) +
    Ideal.ofBits .f32 0x3F000000#32 * u * (1 - th u * th u) * Ideal.ofBits .f32 0x3F4C422A#32 *
      (1 + Ideal.ofBits .f32 0x3E095D4F#32 * (u * u))

/-- The e4m3 code of `v` at scale `s`: the quotient clipped to ±448. -/
def q4 (v s : EReal) : EReal :=
  min (Ideal.ofBits .f32 0x43E00000#32) (max (Ideal.ofBits .f32 0xC3E00000#32) (Ideal.div v s))

/-- The e5m2 code of `v` at scale `s`: the quotient clipped to ±57344. -/
def q5 (v s : EReal) : EReal :=
  min (Ideal.ofBits .f32 0x47600000#32) (max (Ideal.ofBits .f32 0xC7600000#32) (Ideal.div v s))

/-- The absolute value of an f32 entry, as both programs take it. -/
abbrev abs32 (v : EReal) : EReal := FloatOps.absf (F := Ideal) (φ := .f32) v

/-- The bits of minus infinity are the bottom element. -/
theorem neg_inf : Ideal.ofBits .f32 0xFF800000#32 = (⊥ : EReal) := by
  simp [Ideal.ofBits, Ideal.ieee]

/-- An absolute value is not negative. -/
theorem abs32_nonneg (v : EReal) : 0 ≤ abs32 v := by
  show (0 : EReal) ≤ max v (-v)
  rcases le_total 0 v with h | h
  · exact le_max_of_le_left h
  · exact le_max_of_le_right (EReal.neg_nonneg.mpr h)

/-- The argument entries: the eight scales of a layer, the two weight scales, the codes of the input `h`, of the output
    cotangent `d` and of the two weights, and the bias. -/
structure Args where
  sc : Fin 8 → EReal
  p : EReal
  q : EReal
  h : Fin 1024 → Fin 1152 → EReal
  d : Fin 1024 → Fin 1152 → EReal
  w1 : Fin 1152 → Fin 4608 → EReal
  b : Fin 4608 → EReal
  w2 : Fin 4608 → Fin 1152 → EReal

namespace Args

variable (A : Args)

/-- The pre-activation `u = h W₁ + b₁`, dequantised. -/
def u (i : Fin 1024) (j : Fin 4608) : EReal := lin (A.h i) (fun k => A.w1 k j) (A.sc 2 * A.p) (A.b j)

/-- The activation `g = gelu u`. -/
def g (i : Fin 1024) (j : Fin 4608) : EReal := act (A.u i j)

/-- The cotangent of the pre-activation, `du = (d W₂ᵀ) · gelu' u`, dequantised. -/
def du (i : Fin 1024) (j : Fin 4608) : EReal := prod (A.d i) (A.w2 j) (A.sc 4 * A.q) * dact (A.u i j)

/-- The e4m3 codes of the activation. -/
def gC (i : Fin 1024) (j : Fin 4608) : EReal := q4 (A.g i j) (A.sc 3)

/-- The e5m2 codes of the cotangent. -/
def duC (i : Fin 1024) (j : Fin 4608) : EReal := q5 (A.du i j) (A.sc 5)

/-- The product of the activation's codes with those of `W₂`. -/
def f (i : Fin 1024) (c : Fin 1152) : EReal := ∑ j, A.gC i j * A.w2 j c

/-- The product of the cotangent's codes with those of `W₁`, transposed. -/
def dh (i : Fin 1024) (c : Fin 1152) : EReal := ∑ j, A.duC i j * A.w1 c j

/-- The gradient of `W₁`. -/
def dw1 (c : Fin 1152) (j : Fin 4608) : EReal := prod (fun i => A.h i c) (fun i => A.duC i j) (A.sc 2 * A.sc 5)

/-- The gradient of `W₂`. -/
def dw2 (j : Fin 4608) (c : Fin 1152) : EReal := prod (fun i => A.gC i j) (fun i => A.d i c) (A.sc 3 * A.sc 4)

/-- The array whose absolute maxima part `a` of the maxima keeps: the activation, then the cotangent. -/
def amArr (a : Fin 2) (i : Fin 1024) (j : Fin 4608) : EReal := if a.val = 0 then A.g i j else A.du i j

end Args

/-- `x` is the greatest absolute value of the entries of `v` whose row is `r` modulo 8 and whose column is `l` modulo
    128, told by its upper bounds. -/
def IsAmax (v : Fin 1024 → Fin 4608 → EReal) (r : Fin 8) (l : Fin 128) (x : EReal) : Prop :=
  ∀ z, x ≤ z ↔ ∀ i j, i.val % 8 = r.val → j.val % 128 = l.val → abs32 (v i j) ≤ z

/-- Two numbers that are both that maximum are equal. -/
theorem IsAmax.unique {v : Fin 1024 → Fin 4608 → EReal} {r : Fin 8} {l : Fin 128} {x y : EReal} (hx : IsAmax v r l x)
    (hy : IsAmax v r l y) : x = y :=
  eq_of_forall_ge_iff fun z => (hx z).trans (hy z).symm

end Cert.Mlp
-- ==== Proof.Inputs.lean ====
/-
  The pipelined kernel's inputs: its argument entries as the specification's `Args`, and what each grid point's input
  blocks hold of them. Point `t` sees the whole of `h`, `d` and the bias, and columns `512 t …` of `W₁`, rows `512 t …`
  of `W₂`.
-/
module

public import proofs.«01_k».proof.Proof.Gen.KernelIdeal.Value
public import proofs.«01_k».proof.Proof.Spec
public import Idealize.ShloMosaic.Lib.Pipeline.ValueKit
public import Idealize.ShloMosaic.Lib.Pipeline.ReadBack

@[expose] public section

set_option maxRecDepth 16384

noncomputable section

namespace Cert.KernelIdeal.Val

open Cert.KernelIdeal Cert.KernelIdeal.Gen Cert.KernelIdeal.Value Idealize.ShloMosaic Idealize.ShloMosaic.TcCoe Idealize.SL.Sem
open Cert.Mlp

variable (m : (ℓ : Loc nD τ sig) → Buf (Elt Ideal) ℓ)

/-- Device `c`'s argument entries. -/
def args (c : Dev nD) : Args where
  sc k := m ((c : Thread nD τ).loc main_arg0) (ix1 k)
  p := m ((c : Thread nD τ).loc main_arg1) (ix1 0)
  q := m ((c : Thread nD τ).loc main_arg2) (ix1 0)
  h i k := m ((c : Thread nD τ).loc main_arg3) (ix2 i k)
  d i k := m ((c : Thread nD τ).loc main_arg4) (ix2 i k)
  w1 k j := m ((c : Thread nD τ).loc main_arg5) (ix2 k j)
  b j := m ((c : Thread nD τ).loc main_arg6) (ix1 j)
  w2 j k := m ((c : Thread nD τ).loc main_arg7) (ix2 j k)

/-- Column `j` of point `t`'s block, as a column of the whole array. -/
def col (t : Fin cfg0.N) (j : Fin 512) : Fin 4608 :=
  ⟨512 * t.val + j.val, by have := t.isLt; have : cfg0.N = 9 := N_0; omega⟩

/-- Where each input window's block starts, in blocks. -/
theorem idx : ∀ t : Fin cfg0.N, win0_0.index t = ![0] ∧ win0_1.index t = ![0] ∧ win0_2.index t = ![0] ∧
    win0_3.index t = ![0, 0] ∧ win0_4.index t = ![0, 0] ∧ win0_5.index t = ![0, t.val] ∧ win0_6.index t = ![0] ∧
    win0_7.index t = ![t.val, 0] :=
  (by decide +kernel : ∀ t : Fin grid0.N, _)

/-- The scales' block is the eight scales. -/
theorem iblk0 (c : Dev nD) (t : Fin cfg0.N) (k : Fin 8) : iblk m c 0 t (ix1 k) = (args m c).sc k := by
  obtain ⟨e0, e1, e2, e3, e4, e5, e6, e7⟩ := idx t
  blk_point [iblk, V, args, e0]

/-- The first weight scale's block is that scale. -/
theorem iblk1 (c : Dev nD) (t : Fin cfg0.N) : iblk m c 1 t (ix1 0) = (args m c).p := by
  obtain ⟨e0, e1, e2, e3, e4, e5, e6, e7⟩ := idx t
  blk_point [iblk, V, args, e1]

/-- The second weight scale's block is that scale. -/
theorem iblk2 (c : Dev nD) (t : Fin cfg0.N) : iblk m c 2 t (ix1 0) = (args m c).q := by
  obtain ⟨e0, e1, e2, e3, e4, e5, e6, e7⟩ := idx t
  blk_point [iblk, V, args, e2]

/-- The block of `h` is the whole of `h`. -/
theorem iblk3 (c : Dev nD) (t : Fin cfg0.N) (i : Fin 1024) (k : Fin 1152) : iblk m c 3 t (ix2 i k) = (args m c).h i k := by
  obtain ⟨e0, e1, e2, e3, e4, e5, e6, e7⟩ := idx t
  blk_point [iblk, V, args, e3]

/-- The block of `d` is the whole of `d`. -/
theorem iblk4 (c : Dev nD) (t : Fin cfg0.N) (i : Fin 1024) (k : Fin 1152) : iblk m c 4 t (ix2 i k) = (args m c).d i k := by
  obtain ⟨e0, e1, e2, e3, e4, e5, e6, e7⟩ := idx t
  blk_point [iblk, V, args, e4]

/-- The block of `W₁` is 512 of its columns. -/
theorem iblk5 (c : Dev nD) (t : Fin cfg0.N) (k : Fin 1152) (j : Fin 512) :
    iblk m c 5 t (ix2 k j) = (args m c).w1 k (col t j) := by
  obtain ⟨e0, e1, e2, e3, e4, e5, e6, e7⟩ := idx t
  blk_point [iblk, V, args, col, e5]

/-- The block of the bias is the whole bias. -/
theorem iblk6 (c : Dev nD) (t : Fin cfg0.N) (j : Fin 4608) : iblk m c 6 t (ix1 j) = (args m c).b j := by
  obtain ⟨e0, e1, e2, e3, e4, e5, e6, e7⟩ := idx t
  blk_point [iblk, V, args, e6]

/-- The block of `W₂` is 512 of its rows. -/
theorem iblk7 (c : Dev nD) (t : Fin cfg0.N) (j : Fin 512) (k : Fin 1152) :
    iblk m c 7 t (ix2 j k) = (args m c).w2 (col t j) k := by
  obtain ⟨e0, e1, e2, e3, e4, e5, e6, e7⟩ := idx t
  blk_point [iblk, V, args, col, e7]

/-- A scalar load of entry `n` of the eight scales. -/
theorem ld_S8 (x : Vec Ideal S8 .f32) (n : ℕ) (inb : ∀ a, (![n] : Fin 1 → ℕ) a + (![1] : Fin 1 → ℕ) a ≤ S8.size a) (j) :
    View.ld x (Rect.unit (s := S8) ![n] ![1] inb) j = x (ix1 ⟨n, Nat.lt_of_succ_le (inb 0)⟩) := by
  refine congrArg x (funext fun a => ?_)
  have h := (j 0).isLt
  fin_cases a
  refine Fin.ext ?_
  show n + 1 * (j 0).val = n
  have : (j 0).val < 1 := h
  omega

/-- A scalar load of a weight scale. -/
theorem ld_S1 (x : Vec Ideal S1 .f32) (inb : ∀ a, (![0] : Fin 1 → ℕ) a + (![1] : Fin 1 → ℕ) a ≤ S1.size a) (j) :
    View.ld x (Rect.unit (s := S1) ![0] ![1] inb) j = x (ix1 0) := by
  refine congrArg x (funext fun a => ?_)
  fin_cases a
  exact Subsingleton.elim (α := Fin 1) _ _

end Cert.KernelIdeal.Val
-- ==== Proof.Chunks.lean ====
/-
  What the pipelined kernel computes for one chunk of 256 rows at one grid point. The body is written out four times,
  once per chunk, and each copy is printed with its values cut differently; every copy is shown here to be the same few
  functions of the chunk's rows and the point's blocks, written with the specification's scalar functions. The rest of
  the proof never sees which copy it reads.
-/
module

public import proofs.«01_k».proof.Proof.Inputs
public import Idealize.ShloMosaic.Lib.Pointwise

@[expose] public section

set_option maxRecDepth 16384

noncomputable section

namespace Cert.KernelIdeal.Val

open Cert.KernelIdeal Cert.KernelIdeal.Gen Cert.KernelIdeal.Value Idealize.ShloMosaic Idealize.ShloMosaic.TcCoe Idealize.SL.Sem
open Cert.Mlp

variable (w1 : Vec Ideal S1152x512 .fp8e4m3) (w2 : Vec Ideal S512x1152 .fp8e4m3) (b : Vec Ideal S1x1x512 .f32)
  (h : Vec Ideal S256x1152 .fp8e4m3) (d : Vec Ideal S256x1152 .fp8e5m2)

/-- The chunk's pre-activation at row `p`, column `q`. -/
def uAt (s : EReal) (p : Fin 256) (q : Fin 512) : EReal :=
  lin (fun k => h (ix2 p k)) (fun k => w1 (ix2 k q)) s (b (ix3 0 0 q))

/-- The chunk's activations. -/
def gV (s : EReal) : FVec Ideal S256x512 .f32 := fun x => act (uAt w1 b h s (x 0) (x 1))

/-- The chunk's cotangents of the pre-activation. -/
def duV (s s' : EReal) : FVec Ideal S256x512 .f32 := fun x =>
  prod (fun k => d (ix2 (x 0) k)) (fun k => w2 (ix2 (x 1) k)) s' * dact (uAt w1 b h s (x 0) (x 1))

/-- The e4m3 codes of a chunk. -/
def q4V (v : FVec Ideal S256x512 .f32) (s : EReal) : FVec Ideal S256x512 .fp8e4m3 := fun x => q4 (v x) s

/-- The e5m2 codes of a chunk. -/
def q5V (v : FVec Ideal S256x512 .f32) (s : EReal) : FVec Ideal S256x512 .fp8e5m2 := fun x => q5 (v x) s

variable (s2 sA s3 s4 sB s5 : Elt Ideal .f32)

/-! ## The activations and their codes -/

theorem g0 : k0_pay23 (k0_pay21 w1 b s2 sA h) (k0_pay22 w1 b s2 sA h) = gV w1 b h (s2 * sA) := by
  funext x; idx_vars x
  pointwise [k0_pay23, k0_pay22, k0_pay21, k0_pay20, k0_pay18, k0_pay16, k0_pay15]; rfl

theorem g1 : k0_pay35 w1 (k0_pay15 b) (k0_pay16 s2 sA) h = gV w1 b h (s2 * sA) := by
  funext x; idx_vars x
  pointwise [k0_pay35, k0_pay34, k0_pay33, k0_pay31, k0_pay16, k0_pay15]; rfl

theorem g2 : k0_pay50 (k0_pay47 w1 (k0_pay15 b) (k0_pay16 s2 sA) h) = gV w1 b h (s2 * sA) := by
  funext x; idx_vars x
  pointwise [k0_pay50, k0_pay49, k0_pay48, k0_pay47, k0_pay16, k0_pay15]; rfl

theorem g3 : k0_pay66 (k0_pay64 w1 (k0_pay15 b) (k0_pay16 s2 sA) h) (k0_pay65 w1 (k0_pay15 b) (k0_pay16 s2 sA) h) =
    gV w1 b h (s2 * sA) := by
  funext x; idx_vars x
  pointwise [k0_pay66, k0_pay65, k0_pay64, k0_pay63, k0_pay61, k0_pay16, k0_pay15]; rfl

theorem gc0 : k0_pay25 (k0_pay21 w1 b s2 sA h) (k0_pay22 w1 b s2 sA h) s3 = q4V (gV w1 b h (s2 * sA)) s3 := by
  rw [← g0]; funext x; idx_vars x; pointwise [k0_pay25]; rfl

theorem gc1 : k0_pay40 (k0_pay35 w1 (k0_pay15 b) (k0_pay16 s2 sA) h) s3 = q4V (gV w1 b h (s2 * sA)) s3 := by
  rw [g1]; funext x; idx_vars x; pointwise [k0_pay40]; rfl

theorem gc2 : k0_pay53 (k0_pay52 (k0_pay47 w1 (k0_pay15 b) (k0_pay16 s2 sA) h) s3) = q4V (gV w1 b h (s2 * sA)) s3 := by
  rw [← g2]; funext x; idx_vars x; pointwise [k0_pay53, k0_pay52]; rfl

theorem gc3 : k0_pay68 (k0_pay64 w1 (k0_pay15 b) (k0_pay16 s2 sA) h) (k0_pay65 w1 (k0_pay15 b) (k0_pay16 s2 sA) h) s3 =
    q4V (gV w1 b h (s2 * sA)) s3 := by
  rw [← g3]; funext x; idx_vars x; pointwise [k0_pay68]; rfl

/-! ## The cotangents and their codes -/

theorem du0 : k0_pay24 (k0_pay18 w1 b s2 sA h) (k0_pay19 w2 s4 sB d) (k0_pay20 w1 b s2 sA h) (k0_pay21 w1 b s2 sA h) =
    duV w1 w2 b h d (s2 * sA) (s4 * sB) := by
  funext x; idx_vars x
  pointwise [k0_pay24, k0_pay21, k0_pay20, k0_pay19, k0_pay18, k0_pay17, k0_pay16, k0_pay15]; rfl

theorem du1 : k0_pay39 (k0_pay32 w2 (k0_pay17 s4 sB) d) (k0_pay33 w1 (k0_pay15 b) (k0_pay16 s2 sA) h)
      (k0_pay36 w1 (k0_pay15 b) (k0_pay16 s2 sA) h) (k0_pay37 w1 (k0_pay15 b) (k0_pay16 s2 sA) h) k0_pay38 =
    duV w1 w2 b h d (s2 * sA) (s4 * sB) := by
  funext x; idx_vars x
  pointwise [k0_pay39, k0_pay38, k0_pay37, k0_pay36, k0_pay34, k0_pay33, k0_pay32, k0_pay31, k0_pay17, k0_pay16, k0_pay15]
  rfl

theorem du2 : k0_pay51 w2 (k0_pay17 s4 sB) (k0_pay47 w1 (k0_pay15 b) (k0_pay16 s2 sA) h) d =
    duV w1 w2 b h d (s2 * sA) (s4 * sB) := by
  funext x; idx_vars x
  pointwise [k0_pay51, k0_pay49, k0_pay48, k0_pay47, k0_pay17, k0_pay16, k0_pay15]; rfl

theorem du3 : k0_pay67 (k0_pay61 w1 (k0_pay15 b) (k0_pay16 s2 sA) h) (k0_pay62 w2 (k0_pay17 s4 sB) d)
      (k0_pay63 w1 (k0_pay15 b) (k0_pay16 s2 sA) h) (k0_pay64 w1 (k0_pay15 b) (k0_pay16 s2 sA) h) =
    duV w1 w2 b h d (s2 * sA) (s4 * sB) := by
  funext x; idx_vars x
  pointwise [k0_pay67, k0_pay64, k0_pay63, k0_pay62, k0_pay61, k0_pay17, k0_pay16, k0_pay15]; rfl

theorem duc0 : k0_pay26 (k0_pay18 w1 b s2 sA h) (k0_pay19 w2 s4 sB d) (k0_pay20 w1 b s2 sA h) (k0_pay21 w1 b s2 sA h) s5 =
    q5V (duV w1 w2 b h d (s2 * sA) (s4 * sB)) s5 := by
  rw [← du0]; funext x; idx_vars x; pointwise [k0_pay26]; rfl

theorem duc1 : k0_pay41 (k0_pay32 w2 (k0_pay17 s4 sB) d) (k0_pay33 w1 (k0_pay15 b) (k0_pay16 s2 sA) h)
      (k0_pay36 w1 (k0_pay15 b) (k0_pay16 s2 sA) h) (k0_pay37 w1 (k0_pay15 b) (k0_pay16 s2 sA) h) k0_pay38 s5 =
    q5V (duV w1 w2 b h d (s2 * sA) (s4 * sB)) s5 := by
  rw [← du1]; funext x; idx_vars x; pointwise [k0_pay41]; rfl

theorem duc2 : k0_pay54 (k0_pay51 w2 (k0_pay17 s4 sB) (k0_pay47 w1 (k0_pay15 b) (k0_pay16 s2 sA) h) d) s5 =
    q5V (duV w1 w2 b h d (s2 * sA) (s4 * sB)) s5 := by
  rw [du2]; funext x; idx_vars x; pointwise [k0_pay54]; rfl

theorem duc3 : k0_pay69 (k0_pay61 w1 (k0_pay15 b) (k0_pay16 s2 sA) h) (k0_pay62 w2 (k0_pay17 s4 sB) d)
      (k0_pay63 w1 (k0_pay15 b) (k0_pay16 s2 sA) h) (k0_pay64 w1 (k0_pay15 b) (k0_pay16 s2 sA) h) s5 =
    q5V (duV w1 w2 b h d (s2 * sA) (s4 * sB)) s5 := by
  rw [← du3]; funext x; idx_vars x; pointwise [k0_pay69]; rfl

/-! ## The chunk's share of the two running products -/

/-- A running product with the chunk's codes times the point's rows of `W₂` added. -/
def fV (a : FVec Ideal S256x512 .fp8e4m3) (acc : FVec Ideal S256x1152 .f32) : FVec Ideal S256x1152 .f32 := fun x =>
  acc x + ∑ k : Fin 512, a (ix2 (x 0) k) * w2 (ix2 k (x 1))

/-- A running product with the chunk's codes times the point's columns of `W₁`, transposed, added. -/
def dhV (a : FVec Ideal S256x512 .fp8e5m2) (acc : FVec Ideal S256x1152 .f32) : FVec Ideal S256x1152 .f32 := fun x =>
  acc x + ∑ k : Fin 512, a (ix2 (x 0) k) * w1 (ix2 (x 1) k)

section
variable (a : FVec Ideal S256x512 .fp8e4m3) (a' : FVec Ideal S256x512 .fp8e5m2) (acc : FVec Ideal S256x1152 .f32)

theorem f0 : k0_pay29 (k0_pay14 w2) a acc = fV w2 a acc := by
  funext x; idx_vars x; pointwise [k0_pay29, k0_pay14]; rfl

theorem f1 : k0_pay45 (k0_pay14 w2) a acc = fV w2 a acc := by
  funext x; idx_vars x; pointwise [k0_pay45, k0_pay14]; rfl

theorem f2 : k0_pay59 (k0_pay14 w2) a acc = fV w2 a acc := by
  funext x; idx_vars x; pointwise [k0_pay59, k0_pay14]; rfl

theorem f3 : k0_pay72 (k0_pay14 w2) a acc = fV w2 a acc := by
  funext x; idx_vars x; pointwise [k0_pay72, k0_pay14]; rfl

theorem dh0 : k0_pay30 w1 a' acc = dhV w1 a' acc := by
  funext x; idx_vars x; pointwise [k0_pay30]; rfl

theorem dh1 : k0_pay46 w1 a' acc = dhV w1 a' acc := by
  funext x; idx_vars x; pointwise [k0_pay46]; rfl

theorem dh2 : k0_pay60 w1 a' acc = dhV w1 a' acc := by
  funext x; idx_vars x; pointwise [k0_pay60]; rfl

theorem dh3 : k0_pay73 w1 a' acc = dhV w1 a' acc := by
  funext x; idx_vars x; pointwise [k0_pay73]; rfl

end

/-! ## The chunk's share of the running maxima -/

/-- The greatest absolute value in column `o + l` of a chunk over the rows that are `r` modulo 8. -/
def colMax (v : FVec Ideal S256x512 .f32) (r : Fin 8) (l : Fin 128) (o : ℕ) (ho : o + 128 ≤ 512) : EReal :=
  Finset.fold max (Ideal.ofBits .f32 0xFF800000#32)
    (fun x : Fin 32 => abs32 (v (ix2 ⟨x.val * 8 + r.val, by omega⟩ ⟨o + l.val, by omega⟩))) Finset.univ

/-- The running maxima with the chunk's absolute values taken in. -/
def amV (v : FVec Ideal S256x512 .f32) (acc : FVec Ideal S1x8x128 .f32) : FVec Ideal S1x8x128 .f32 := fun x =>
  max (acc (ix3 0 (x 1) (x 2))) (max (max (max (colMax v (x 1) (x 2) 0 (by decide)) (colMax v (x 1) (x 2) 128 (by decide)))
    (colMax v (x 1) (x 2) 256 (by decide))) (colMax v (x 1) (x 2) 384 (by decide)))

section
variable (v : FVec Ideal S256x512 .f32) (acc : FVec Ideal S1x8x128 .f32)

/-- How each copy of the body is read as `amV`: the pointwise reading differs from it only in `0 + l` for `l`. -/
theorem amV_apply (x0 : Fin 1) (x1 : Fin 8) (x2 : Fin 128) (y : EReal)
    (e : y = max (acc (ix3 0 x1 x2)) (max (max (max
      (Finset.fold max (Ideal.ofBits .f32 0xFF800000#32)
        (fun x : Fin 32 => abs32 (v (ix2 ⟨x.val * 8 + x1.val, by omega⟩ ⟨x2.val, by omega⟩))) Finset.univ)
      (colMax v x1 x2 128 (by decide))) (colMax v x1 x2 256 (by decide))) (colMax v x1 x2 384 (by decide)))) :
    y = amV v acc (ix3 x0 x1 x2) := by
  rw [e]
  show _ = max (acc (ix3 0 x1 x2)) (max (max (max (colMax v x1 x2 0 _) _) _) _)
  congr 4
  unfold colMax
  simp only [Nat.zero_add]

theorem am0g : k0_pay27 v acc = amV v acc := by
  funext x; idx_vars x; pointwise [k0_pay27]; exact amV_apply v acc _ _ _ _ rfl

theorem am0d : k0_pay28 v acc = amV v acc := by
  funext x; idx_vars x; pointwise [k0_pay28]; exact amV_apply v acc _ _ _ _ rfl

theorem am1g : k0_pay43 (k0_pay42 v acc) = amV v acc := by
  funext x; idx_vars x; pointwise [k0_pay43, k0_pay42]; exact amV_apply v acc _ _ _ _ rfl

theorem am1d : k0_pay44 v acc = amV v acc := by
  funext x; idx_vars x; pointwise [k0_pay44]; exact amV_apply v acc _ _ _ _ rfl

theorem am2g : k0_pay55 v acc = amV v acc := by
  funext x; idx_vars x; pointwise [k0_pay55]; exact amV_apply v acc _ _ _ _ rfl

theorem am2d : k0_pay58 (k0_pay56 acc) (k0_pay57 v) = amV v acc := by
  funext x; idx_vars x; pointwise [k0_pay58, k0_pay57, k0_pay56]; exact amV_apply v acc _ _ _ _ rfl

theorem am3g : k0_pay70 v acc = amV v acc := by
  funext x; idx_vars x; pointwise [k0_pay70]; exact amV_apply v acc _ _ _ _ rfl

theorem am3d : k0_pay71 v acc = amV v acc := by
  funext x; idx_vars x; pointwise [k0_pay71]; exact amV_apply v acc _ _ _ _ rfl

end

end Cert.KernelIdeal.Val
-- ==== Proof.Parts.lean ====
/-
  The buffer of the maxima is stored in two parts, one for the activation and one for the cotangent; both programs store
  it so, and both are read back by the lemma here.
-/
module

public import proofs.«01_k».proof.Proof.Spec
public import Idealize.ShloMosaic.Lib.Pipeline.ValueKit
public import Idealize.ShloMosaic.Lib.Pipeline.ReadBack

@[expose] public section

noncomputable section

namespace Cert.Mlp

open Idealize.ShloMosaic Idealize.ShloMosaic.TcCoe Idealize.SL.Sem

/-- The last store to each of the two parts of the maxima is what the buffer holds, whatever was stored before. -/
theorem two_parts (X Y : Vec Ideal ⟨3, ![1, 8, 128]⟩ .f32) (L : List (View.Piece (Elt Ideal) ⟨3, ![2, 8, 128]⟩ .f32))
    (h0 : ∀ b, (![0, 0, 0] : Fin 3 → ℕ) b + (![1, 8, 128] : Fin 3 → ℕ) b ≤ (⟨3, ![2, 8, 128]⟩ : Shape).size b)
    (h1 : ∀ b, (![1, 0, 0] : Fin 3 → ℕ) b + (![1, 8, 128] : Fin 3 → ℕ) b ≤ (⟨3, ![2, 8, 128]⟩ : Shape).size b)
    (a : Fin 2) (r : Fin 8) (l : Fin 128) :
    View.canon (Val := Elt Ideal) (s := ⟨3, ![2, 8, 128]⟩) (e := .f32)
      (⟨Rect.unit ![1, 0, 0] ![1, 8, 128] h1, Y⟩ ::
        ⟨Rect.unit ![0, 0, 0] ![1, 8, 128] h0, X⟩ :: L) (ix3 a r l) =
      if a.val = 0 then X (ix3 0 r l) else Y (ix3 0 r l) := by
  have e0 : (Rect.unit (s := ⟨3, ![2, 8, 128]⟩) ![0, 0, 0] ![1, 8, 128] h0).emb (ix3 (0 : Fin 1) r l) = ix3 0 r l := by
    funext b; fin_cases b
    · rfl
    · exact Fin.ext (show 0 + 1 * r.val = r.val by omega)
    · exact Fin.ext (show 0 + 1 * l.val = l.val by omega)
  have e1 : (Rect.unit (s := ⟨3, ![2, 8, 128]⟩) ![1, 0, 0] ![1, 8, 128] h1).emb (ix3 (0 : Fin 1) r l) = ix3 1 r l := by
    funext b; fin_cases b
    · rfl
    · exact Fin.ext (show 0 + 1 * r.val = r.val by omega)
    · exact Fin.ext (show 0 + 1 * l.val = l.val by omega)
  fin_cases a
  · show View.canon _ (ix3 0 r l) = X (ix3 0 r l)
    rw [View.canon_cons_of_not_mem, ← e0, View.canon_cons_emb]
    rw [Rect.mem_set_unit]
    intro h
    exact absurd (show 1 ≤ 0 from (h 0).1) (by decide)
  · show View.canon _ (ix3 1 r l) = Y (ix3 0 r l)
    rw [← e1, View.canon_cons_emb]

end Cert.Mlp
-- ==== Proof.Tiles.lean ====
/-
  From chunks to the whole block of a grid point. The four chunks of 256 rows are stored one below the other; here the
  four stores together are read as one block, given in the specification's terms: the codes of the activation and of the
  cotangent in columns `512 t …`, the running products with those columns' terms added, and the running maxima with
  those columns' absolute values taken in.
-/
module

public import proofs.«01_k».proof.Proof.Chunks
public import proofs.«01_k».proof.Proof.Parts

@[expose] public section

set_option maxRecDepth 16384

noncomputable section

namespace Cert.KernelIdeal.Val

open Cert.KernelIdeal Cert.KernelIdeal.Gen Cert.KernelIdeal.Value Idealize.ShloMosaic Idealize.ShloMosaic.TcCoe Idealize.SL.Sem
open Cert.Mlp

variable (m : (ℓ : Loc nD τ sig) → Buf (Elt Ideal) ℓ) (c : Dev nD) (t : Fin cfg0.N)

/-! ## The scalars of a point -/

theorem sc2 (j) : View.ld (iblk m c 0 t) (Rect.unit ![2] ![1] inb_S8_S1_2) j = (args m c).sc 2 :=
  (ld_S8 (iblk m c 0 t) 2 inb_S8_S1_2 j).trans (iblk0 m c t 2)

theorem sc3 (j) : View.ld (iblk m c 0 t) (Rect.unit ![3] ![1] inb_S8_S1_3) j = (args m c).sc 3 :=
  (ld_S8 (iblk m c 0 t) 3 inb_S8_S1_3 j).trans (iblk0 m c t 3)

theorem sc4 (j) : View.ld (iblk m c 0 t) (Rect.unit ![4] ![1] inb_S8_S1_4) j = (args m c).sc 4 :=
  (ld_S8 (iblk m c 0 t) 4 inb_S8_S1_4 j).trans (iblk0 m c t 4)

theorem sc5 (j) : View.ld (iblk m c 0 t) (Rect.unit ![5] ![1] inb_S8_S1_5) j = (args m c).sc 5 :=
  (ld_S8 (iblk m c 0 t) 5 inb_S8_S1_5 j).trans (iblk0 m c t 5)

theorem scp (j) : View.ld (iblk m c 1 t) (Rect.unit ![0] ![1] inb_S1_S1_0) j = (args m c).p :=
  (ld_S1 (iblk m c 1 t) inb_S1_S1_0 j).trans (iblk1 m c t)

theorem scq (j) : View.ld (iblk m c 2 t) (Rect.unit ![0] ![1] inb_S1_S1_0) j = (args m c).q :=
  (ld_S1 (iblk m c 2 t) inb_S1_S1_0 j).trans (iblk2 m c t)

/-! ## One chunk, in the specification's terms -/

/-- A chunk of `n` rows from row `o` of an array with 1024 rows, at one entry. -/
theorem ld_rows {n w : ℕ} {e : EltTy} (X : Vec Ideal ⟨2, ![1024, w]⟩ e) (o : ℕ)
    (inb : ∀ a, (![o, 0] : Fin 2 → ℕ) a + (![n, w] : Fin 2 → ℕ) a ≤ (⟨2, ![1024, w]⟩ : Shape).size a)
    (p : Fin n) (k : Fin w) (i : Fin 1024) (hi : i.val = o + p.val) :
    View.ld X (Rect.unit (s := ⟨2, ![1024, w]⟩) ![o, 0] ![n, w] inb) (ix2 p k) = X (ix2 i k) := by
  refine congrArg X (funext fun a => ?_)
  fin_cases a
  · exact Fin.ext ((show o + 1 * p.val = i.val by omega))
  · exact Fin.ext ((show 0 + 1 * k.val = k.val by omega))

section
variable (bb : Vec Ideal S1x1x512 .f32) (hb : ∀ j, bb (ix3 0 0 j) = (args m c).b (col t j))
  (o : ℕ) (inb : ∀ a, (![o, 0] : Fin 2 → ℕ) a + (![256, 1152] : Fin 2 → ℕ) a ≤ S1024x1152.size a)

/-- The rows of `h` a chunk loads. -/
abbrev hRows : Vec Ideal S256x1152 .fp8e4m3 := View.ld (iblk m c 3 t) (Rect.unit (s := S1024x1152) ![o, 0] ![256, 1152] inb)

/-- The rows of `d` a chunk loads. -/
abbrev dRows : Vec Ideal S256x1152 .fp8e5m2 := View.ld (iblk m c 4 t) (Rect.unit (s := S1024x1152) ![o, 0] ![256, 1152] inb)

include hb

/-- A chunk's activation is the specification's. -/
theorem g_at (p : Fin 256) (q : Fin 512) (i : Fin 1024) (hi : i.val = o + p.val) :
    gV (iblk m c 5 t) bb (hRows m c t o inb) ((args m c).sc 2 * (args m c).p) (ix2 p q) = (args m c).g i (col t q) := by
  show act (lin (fun k => hRows m c t o inb (ix2 p k)) (fun k => iblk m c 5 t (ix2 k q)) _ (bb (ix3 0 0 q))) = _
  simp only [hb]
  unfold Args.g Args.u
  congr 2
  · exact funext fun k => (ld_rows (iblk m c 3 t) o inb p k i hi).trans (iblk3 m c t i k)
  · exact funext fun k => iblk5 m c t k q

/-- A chunk's cotangent is the specification's. -/
theorem du_at (p : Fin 256) (q : Fin 512) (i : Fin 1024) (hi : i.val = o + p.val) :
    duV (iblk m c 5 t) (iblk m c 7 t) bb (hRows m c t o inb) (dRows m c t o inb)
      ((args m c).sc 2 * (args m c).p) ((args m c).sc 4 * (args m c).q) (ix2 p q) = (args m c).du i (col t q) := by
  show prod (fun k => dRows m c t o inb (ix2 p k)) (fun k => iblk m c 7 t (ix2 q k)) _ *
    dact (lin (fun k => hRows m c t o inb (ix2 p k)) (fun k => iblk m c 5 t (ix2 k q)) _ (bb (ix3 0 0 q))) = _
  simp only [hb]
  unfold Args.du Args.u
  congr 3
  · exact funext fun k => (ld_rows (iblk m c 4 t) o inb p k i hi).trans (iblk4 m c t i k)
  · exact funext fun k => iblk7 m c t q k
  · exact funext fun k => (ld_rows (iblk m c 3 t) o inb p k i hi).trans (iblk3 m c t i k)
  · exact funext fun k => iblk5 m c t k q

end

/-! ## The four chunks together -/

/-- The activations of the chunk of rows from row `o`, with the bias `bb`. -/
abbrev gP (bb : Vec Ideal S1x1x512 .f32) (o : ℕ)
    (inb : ∀ a, (![o, 0] : Fin 2 → ℕ) a + (![256, 1152] : Fin 2 → ℕ) a ≤ S1024x1152.size a) : FVec Ideal S256x512 .f32 :=
  gV (iblk m c 5 t) bb (hRows m c t o inb) ((args m c).sc 2 * (args m c).p)

/-- The cotangents of the chunk of rows from row `o`, with the bias `bb`. -/
abbrev duP (bb : Vec Ideal S1x1x512 .f32) (o : ℕ)
    (inb : ∀ a, (![o, 0] : Fin 2 → ℕ) a + (![256, 1152] : Fin 2 → ℕ) a ≤ S1024x1152.size a) : FVec Ideal S256x512 .f32 :=
  duV (iblk m c 5 t) (iblk m c 7 t) bb (hRows m c t o inb) (dRows m c t o inb)
    ((args m c).sc 2 * (args m c).p) ((args m c).sc 4 * (args m c).q)

section
variable (bb : Vec Ideal S1x1x512 .f32) (hb : ∀ j, bb (ix3 0 0 j) = (args m c).b (col t j))
include hb

/-- The four stores of activation codes leave columns `512 t …` of the activation's codes. -/
theorem g_canon (y : S1024x512.Idx) :
    View.canon (Val := Elt Ideal) (s := S1024x512) (e := .fp8e4m3)
      [⟨Rect.unit ![768, 0] ![256, 512] inb_S1024x512_S256x512_768_0,
          q4V (gP m c t bb 768 inb_S1024x1152_S256x1152_768_0) ((args m c).sc 3)⟩,
        ⟨Rect.unit ![512, 0] ![256, 512] inb_S1024x512_S256x512_512_0,
          q4V (gP m c t bb 512 inb_S1024x1152_S256x1152_512_0) ((args m c).sc 3)⟩,
        ⟨Rect.unit ![256, 0] ![256, 512] inb_S1024x512_S256x512_256_0,
          q4V (gP m c t bb 256 inb_S1024x1152_S256x1152_256_0) ((args m c).sc 3)⟩,
        ⟨Rect.unit ![0, 0] ![256, 512] inb_S1024x512_S256x512_0_0,
          q4V (gP m c t bb 0 inb_S1024x1152_S256x1152_0_0) ((args m c).sc 3)⟩] y =
      (args m c).gC (y 0) (col t (y 1)) := by
  idx_vars y
  canon_tiles x h
  all_goals
    idx_vars x
    obtain rfl : x1 = y1 := Fin.ext (by omega)
    exact congrArg (fun v => q4 v _) (g_at m c t bb hb _ _ x0 x1 y0 (by omega))

/-- The four stores of cotangent codes leave columns `512 t …` of the cotangent's codes. -/
theorem du_canon (y : S1024x512.Idx) :
    View.canon (Val := Elt Ideal) (s := S1024x512) (e := .fp8e5m2)
      [⟨Rect.unit ![768, 0] ![256, 512] inb_S1024x512_S256x512_768_0,
          q5V (duP m c t bb 768 inb_S1024x1152_S256x1152_768_0) ((args m c).sc 5)⟩,
        ⟨Rect.unit ![512, 0] ![256, 512] inb_S1024x512_S256x512_512_0,
          q5V (duP m c t bb 512 inb_S1024x1152_S256x1152_512_0) ((args m c).sc 5)⟩,
        ⟨Rect.unit ![256, 0] ![256, 512] inb_S1024x512_S256x512_256_0,
          q5V (duP m c t bb 256 inb_S1024x1152_S256x1152_256_0) ((args m c).sc 5)⟩,
        ⟨Rect.unit ![0, 0] ![256, 512] inb_S1024x512_S256x512_0_0,
          q5V (duP m c t bb 0 inb_S1024x1152_S256x1152_0_0) ((args m c).sc 5)⟩] y =
      (args m c).duC (y 0) (col t (y 1)) := by
  idx_vars y
  canon_tiles x h
  all_goals
    idx_vars x
    obtain rfl : x1 = y1 := Fin.ext (by omega)
    exact congrArg (fun v => q5 v _) (du_at m c t bb hb _ _ x0 x1 y0 (by omega))

/-- One chunk's store into the first running product, `a₀` before the point: the point's 512 terms added. -/
theorem f_piece (a0 : Vec Ideal S1024x1152 .f32) (o : ℕ)
    (inb : ∀ a, (![o, 0] : Fin 2 → ℕ) a + (![256, 1152] : Fin 2 → ℕ) a ≤ S1024x1152.size a)
    (x : (Rect.unit (s := S1024x1152) ![o, 0] ![256, 1152] inb).shape.Idx) :
    fV (iblk m c 7 t) (q4V (gP m c t bb o inb) ((args m c).sc 3)) (View.ld a0 (Rect.unit (s := S1024x1152) ![o, 0] ![256, 1152] inb)) x =
      (fun y : S1024x1152.Idx => a0 y + ∑ k, (args m c).gC (y 0) (col t k) * (args m c).w2 (col t k) (y 1))
        ((Rect.unit (s := S1024x1152) ![o, 0] ![256, 1152] inb).emb x) := by
  refine congrArg₂ (· + ·) rfl (Finset.sum_congr rfl fun k _ => congrArg₂ (· * ·) ?_ ?_)
  · exact congrArg (fun v => q4 v _) (g_at m c t bb hb o inb (x 0) k _ (by show o + 1 * (x 0).val = _; omega))
  · refine (iblk7 m c t k (x 1)).trans (congrArg _ (Fin.ext ?_))
    show (x 1).val = 0 + 1 * (x 1).val
    omega

/-- One chunk's store into the second running product. -/
theorem dh_piece (a0 : Vec Ideal S1024x1152 .f32) (o : ℕ)
    (inb : ∀ a, (![o, 0] : Fin 2 → ℕ) a + (![256, 1152] : Fin 2 → ℕ) a ≤ S1024x1152.size a)
    (x : (Rect.unit (s := S1024x1152) ![o, 0] ![256, 1152] inb).shape.Idx) :
    dhV (iblk m c 5 t) (q5V (duP m c t bb o inb) ((args m c).sc 5)) (View.ld a0 (Rect.unit (s := S1024x1152) ![o, 0] ![256, 1152] inb)) x =
      (fun y : S1024x1152.Idx => a0 y + ∑ k, (args m c).duC (y 0) (col t k) * (args m c).w1 (y 1) (col t k))
        ((Rect.unit (s := S1024x1152) ![o, 0] ![256, 1152] inb).emb x) := by
  refine congrArg₂ (· + ·) rfl (Finset.sum_congr rfl fun k _ => congrArg₂ (· * ·) ?_ ?_)
  · exact congrArg (fun v => q5 v _) (du_at m c t bb hb o inb (x 0) k _ (by show o + 1 * (x 0).val = _; omega))
  · refine (iblk5 m c t (x 1) k).trans (congrArg (fun z => (args m c).w1 z (col t k)) (Fin.ext ?_))
    show (x 1).val = 0 + 1 * (x 1).val
    omega

end

/-- Four stores of 256 rows each cover 1024 rows: over any earlier stores they leave `G`, if each is a part of `G`. -/
theorem rows_canon (G : S1024x1152.Idx → EReal) (P3 P2 P1 P0 : Vec Ideal S256x1152 .f32) (L : List (View.Piece (Elt Ideal) S1024x1152 .f32))
    (h3 : ∀ x, P3 x = G ((Rect.unit (s := S1024x1152) ![768, 0] ![256, 1152] inb_S1024x1152_S256x1152_768_0).emb x))
    (h2 : ∀ x, P2 x = G ((Rect.unit (s := S1024x1152) ![512, 0] ![256, 1152] inb_S1024x1152_S256x1152_512_0).emb x))
    (h1 : ∀ x, P1 x = G ((Rect.unit (s := S1024x1152) ![256, 0] ![256, 1152] inb_S1024x1152_S256x1152_256_0).emb x))
    (h0 : ∀ x, P0 x = G ((Rect.unit (s := S1024x1152) ![0, 0] ![256, 1152] inb_S1024x1152_S256x1152_0_0).emb x))
    (y : S1024x1152.Idx) :
    View.canon (Val := Elt Ideal) (s := S1024x1152) (e := .f32)
      (⟨Rect.unit ![768, 0] ![256, 1152] inb_S1024x1152_S256x1152_768_0, P3⟩ ::
        ⟨Rect.unit ![512, 0] ![256, 1152] inb_S1024x1152_S256x1152_512_0, P2⟩ ::
        ⟨Rect.unit ![256, 0] ![256, 1152] inb_S1024x1152_S256x1152_256_0, P1⟩ ::
        ⟨Rect.unit ![0, 0] ![256, 1152] inb_S1024x1152_S256x1152_0_0, P0⟩ :: L) y = G y := by
  refine View.canon_append_of_piecesOf (Val := Elt Ideal) (s := S1024x1152) (e := .f32) G L
    [⟨Rect.unit ![768, 0] ![256, 1152] inb_S1024x1152_S256x1152_768_0, P3⟩,
      ⟨Rect.unit ![512, 0] ![256, 1152] inb_S1024x1152_S256x1152_512_0, P2⟩,
      ⟨Rect.unit ![256, 0] ![256, 1152] inb_S1024x1152_S256x1152_256_0, P1⟩,
      ⟨Rect.unit ![0, 0] ![256, 1152] inb_S1024x1152_S256x1152_0_0, P0⟩] ⟨h3, h2, h1, h0, trivial⟩ y ?_
  have hy0 : (y 0).val < 1024 := (y 0).isLt
  have hy1 : (y 1).val < 1152 := (y 1).isLt
  have key : ∀ (o : ℕ) (inb), o ≤ (y 0).val → (y 0).val < o + 256 →
      y ∈ (Rect.unit (s := S1024x1152) ![o, 0] ![256, 1152] inb).set := by
    intro o inb hl hu
    rw [Rect.mem_set_unit]
    intro a
    fin_cases a
    · exact ⟨hl, hu⟩
    · exact ⟨Nat.zero_le _, show (y 1).val < 0 + 1152 by omega⟩
  rcases Nat.lt_or_ge (y 0).val 256 with h | h
  · exact ⟨_, .tail _ (.tail _ (.tail _ (.head _))), key 0 inb_S1024x1152_S256x1152_0_0 (by omega) (by omega)⟩
  rcases Nat.lt_or_ge (y 0).val 512 with h' | h'
  · exact ⟨_, .tail _ (.tail _ (.head _)), key 256 inb_S1024x1152_S256x1152_256_0 (by omega) (by omega)⟩
  rcases Nat.lt_or_ge (y 0).val 768 with h'' | h''
  · exact ⟨_, .tail _ (.head _), key 512 inb_S1024x1152_S256x1152_512_0 (by omega) (by omega)⟩
  · exact ⟨_, .head _, key 768 inb_S1024x1152_S256x1152_768_0 (by omega) (by omega)⟩

section
variable (bb : Vec Ideal S1x1x512 .f32) (hb : ∀ j, bb (ix3 0 0 j) = (args m c).b (col t j)) (a0 : Vec Ideal S1024x1152 .f32)
  (L : List (View.Piece (Elt Ideal) S1024x1152 .f32))
include hb

/-- The four stores into the first running product add the point's 512 terms to it. -/
theorem f_canon (y : S1024x1152.Idx) :
    View.canon (Val := Elt Ideal) (s := S1024x1152) (e := .f32)
      (⟨Rect.unit ![768, 0] ![256, 1152] inb_S1024x1152_S256x1152_768_0,
          fV (iblk m c 7 t) (q4V (gP m c t bb 768 inb_S1024x1152_S256x1152_768_0) ((args m c).sc 3))
            (View.ld a0 (Rect.unit (s := S1024x1152) ![768, 0] ![256, 1152] inb_S1024x1152_S256x1152_768_0))⟩ ::
        ⟨Rect.unit ![512, 0] ![256, 1152] inb_S1024x1152_S256x1152_512_0,
          fV (iblk m c 7 t) (q4V (gP m c t bb 512 inb_S1024x1152_S256x1152_512_0) ((args m c).sc 3))
            (View.ld a0 (Rect.unit (s := S1024x1152) ![512, 0] ![256, 1152] inb_S1024x1152_S256x1152_512_0))⟩ ::
        ⟨Rect.unit ![256, 0] ![256, 1152] inb_S1024x1152_S256x1152_256_0,
          fV (iblk m c 7 t) (q4V (gP m c t bb 256 inb_S1024x1152_S256x1152_256_0) ((args m c).sc 3))
            (View.ld a0 (Rect.unit (s := S1024x1152) ![256, 0] ![256, 1152] inb_S1024x1152_S256x1152_256_0))⟩ ::
        ⟨Rect.unit ![0, 0] ![256, 1152] inb_S1024x1152_S256x1152_0_0,
          fV (iblk m c 7 t) (q4V (gP m c t bb 0 inb_S1024x1152_S256x1152_0_0) ((args m c).sc 3))
            (View.ld a0 (Rect.unit (s := S1024x1152) ![0, 0] ![256, 1152] inb_S1024x1152_S256x1152_0_0))⟩ :: L) y =
      a0 y + ∑ k, (args m c).gC (y 0) (col t k) * (args m c).w2 (col t k) (y 1) :=
  rows_canon (fun y => a0 y + ∑ k, (args m c).gC (y 0) (col t k) * (args m c).w2 (col t k) (y 1)) _ _ _ _ L
    (f_piece m c t bb hb a0 768 inb_S1024x1152_S256x1152_768_0)
    (f_piece m c t bb hb a0 512 inb_S1024x1152_S256x1152_512_0)
    (f_piece m c t bb hb a0 256 inb_S1024x1152_S256x1152_256_0)
    (f_piece m c t bb hb a0 0 inb_S1024x1152_S256x1152_0_0) y

/-- The four stores into the second running product add the point's 512 terms to it. -/
theorem dh_canon (y : S1024x1152.Idx) :
    View.canon (Val := Elt Ideal) (s := S1024x1152) (e := .f32)
      (⟨Rect.unit ![768, 0] ![256, 1152] inb_S1024x1152_S256x1152_768_0,
          dhV (iblk m c 5 t) (q5V (duP m c t bb 768 inb_S1024x1152_S256x1152_768_0) ((args m c).sc 5))
            (View.ld a0 (Rect.unit (s := S1024x1152) ![768, 0] ![256, 1152] inb_S1024x1152_S256x1152_768_0))⟩ ::
        ⟨Rect.unit ![512, 0] ![256, 1152] inb_S1024x1152_S256x1152_512_0,
          dhV (iblk m c 5 t) (q5V (duP m c t bb 512 inb_S1024x1152_S256x1152_512_0) ((args m c).sc 5))
            (View.ld a0 (Rect.unit (s := S1024x1152) ![512, 0] ![256, 1152] inb_S1024x1152_S256x1152_512_0))⟩ ::
        ⟨Rect.unit ![256, 0] ![256, 1152] inb_S1024x1152_S256x1152_256_0,
          dhV (iblk m c 5 t) (q5V (duP m c t bb 256 inb_S1024x1152_S256x1152_256_0) ((args m c).sc 5))
            (View.ld a0 (Rect.unit (s := S1024x1152) ![256, 0] ![256, 1152] inb_S1024x1152_S256x1152_256_0))⟩ ::
        ⟨Rect.unit ![0, 0] ![256, 1152] inb_S1024x1152_S256x1152_0_0,
          dhV (iblk m c 5 t) (q5V (duP m c t bb 0 inb_S1024x1152_S256x1152_0_0) ((args m c).sc 5))
            (View.ld a0 (Rect.unit (s := S1024x1152) ![0, 0] ![256, 1152] inb_S1024x1152_S256x1152_0_0))⟩ :: L) y =
      a0 y + ∑ k, (args m c).duC (y 0) (col t k) * (args m c).w1 (y 1) (col t k) :=
  rows_canon (fun y => a0 y + ∑ k, (args m c).duC (y 0) (col t k) * (args m c).w1 (y 1) (col t k)) _ _ _ _ L
    (dh_piece m c t bb hb a0 768 inb_S1024x1152_S256x1152_768_0)
    (dh_piece m c t bb hb a0 512 inb_S1024x1152_S256x1152_512_0)
    (dh_piece m c t bb hb a0 256 inb_S1024x1152_S256x1152_256_0)
    (dh_piece m c t bb hb a0 0 inb_S1024x1152_S256x1152_0_0) y

end

/-! ## The two gradients -/

/-- A load of a whole 1024 × 512 buffer reads each entry in its own place. -/
theorem whole_idx (inb : ∀ a, (![0, 0] : Fin 2 → ℕ) a + (![1024, 512] : Fin 2 → ℕ) a ≤ S1024x512.size a) (i : Fin 1024) (q : Fin 512) :
    (Rect.unit (s := S1024x512) ![0, 0] ![1024, 512] inb).toLoadRect.idx (ix2 i q) = ix2 i q := by
  funext a
  fin_cases a
  · exact Fin.ext (show 0 + 1 * i.val = i.val by omega)
  · exact Fin.ext (show 0 + 1 * q.val = q.val by omega)

/-- The point's product for the gradient of `W₁`: the transpose of `h` times its columns of the cotangent's codes. -/
theorem dw1_at (H : Vec Ideal S1152x1024 .fp8e4m3) (D : Vec Ideal S1024x512 .fp8e5m2)
    (hH : ∀ k i, H (ix2 k i) = (args m c).h i k) (hD : ∀ i q, D (ix2 i q) = (args m c).duC i (col t q)) (k : Fin 1152) (q : Fin 512) :
    k0_pay74 H D ((args m c).sc 2) ((args m c).sc 5) (ix2 k q) = (args m c).dw1 k (col t q) := by
  pointwise [k0_pay74]
  simp only [hH, hD]
  rfl

/-- The point's product for the gradient of `W₂`: its columns of the activation's codes, transposed, times `d`. -/
theorem dw2_at (G : Vec Ideal S1024x512 .fp8e4m3) (hG : ∀ i q, G (ix2 i q) = (args m c).gC i (col t q)) (q : Fin 512) (k : Fin 1152) :
    k0_pay75 G (iblk m c 4 t) ((args m c).sc 3) ((args m c).sc 4) (ix2 q k) = (args m c).dw2 (col t q) k := by
  pointwise [k0_pay75]
  simp only [hG]
  refine congrArg (· * _) (Finset.sum_congr rfl fun i _ => congrArg _ (iblk4 m c t i k))

/-! ## The running maxima -/

/-- The upper bounds of a column's maximum over a chunk's rows that are `r` modulo 8. -/
theorem colMax_le (v : FVec Ideal S256x512 .f32) (r : Fin 8) (l : Fin 128) (o : ℕ) (ho : o + 128 ≤ 512) (z : EReal) :
    colMax v r l o ho ≤ z ↔ ∀ p : Fin 256, p.val % 8 = r.val → abs32 (v (ix2 p ⟨o + l.val, by omega⟩)) ≤ z := by
  unfold colMax
  rw [Finset.fold_max_le]
  constructor
  · rintro ⟨-, h⟩ p hp
    have := h ⟨p.val / 8, by omega⟩ (Finset.mem_univ _)
    rwa [show (⟨p.val / 8 * 8 + r.val, by omega⟩ : Fin 256) = p from Fin.ext (by show p.val / 8 * 8 + r.val = p.val; omega)] at this
  · intro h
    refine ⟨by rw [neg_inf]; exact bot_le, fun x _ => h _ ?_⟩
    show (x.val * 8 + r.val) % 8 = _
    omega

/-- The upper bounds of a chunk's running maxima: those of the maxima before that also bound the chunk's absolute values. -/
theorem amV_le (v : FVec Ideal S256x512 .f32) (acc : FVec Ideal S1x8x128 .f32) (r : Fin 8) (l : Fin 128) (z : EReal) :
    amV v acc (ix3 0 r l) ≤ z ↔ acc (ix3 0 r l) ≤ z ∧
      ∀ (p : Fin 256) (q : Fin 512), p.val % 8 = r.val → q.val % 128 = l.val → abs32 (v (ix2 p q)) ≤ z := by
  show max (acc (ix3 0 r l)) (max (max (max (colMax v r l 0 _) (colMax v r l 128 _)) (colMax v r l 256 _)) (colMax v r l 384 _)) ≤ z ↔ _
  simp only [max_le_iff, colMax_le]
  refine and_congr_right fun _ => ⟨fun h p q hp hq => ?_, fun h => ?_⟩
  · obtain ⟨⟨⟨h0, h1⟩, h2⟩, h3⟩ := h
    have hq' : q.val < 512 := q.isLt
    have key : ∀ o (ho : o + 128 ≤ 512), q.val = o + l.val → q = ⟨o + l.val, by omega⟩ := fun o ho e => Fin.ext e
    rcases (by omega : q.val = 0 + l.val ∨ q.val = 128 + l.val ∨ q.val = 256 + l.val ∨ q.val = 384 + l.val) with e | e | e | e
    · rw [key 0 (by omega) e]; exact h0 p hp
    · rw [key 128 (by omega) e]; exact h1 p hp
    · rw [key 256 (by omega) e]; exact h2 p hp
    · rw [key 384 (by omega) e]; exact h3 p hp
  · refine ⟨⟨⟨fun p hp => h p _ hp ?_, fun p hp => h p _ hp ?_⟩, fun p hp => h p _ hp ?_⟩, fun p hp => h p _ hp ?_⟩
    · show (0 + l.val) % 128 = _; omega
    · show (128 + l.val) % 128 = _; omega
    · show (256 + l.val) % 128 = _; omega
    · show (384 + l.val) % 128 = _; omega

/-- Four chunks taken in: with the chunks being the rows of `G`, the upper bounds are those of the maxima before that
    also bound all of `G`. -/
theorem am_four (G : Fin 1024 → Fin 512 → EReal) (v0 v1 v2 v3 : FVec Ideal S256x512 .f32) (acc : FVec Ideal S1x8x128 .f32)
    (h0 : ∀ p q i, i.val = 0 + p.val → v0 (ix2 p q) = G i q) (h1 : ∀ p q i, i.val = 256 + p.val → v1 (ix2 p q) = G i q)
    (h2 : ∀ p q i, i.val = 512 + p.val → v2 (ix2 p q) = G i q) (h3 : ∀ p q i, i.val = 768 + p.val → v3 (ix2 p q) = G i q)
    (r : Fin 8) (l : Fin 128) (z : EReal) :
    amV v3 (amV v2 (amV v1 (amV v0 acc))) (ix3 0 r l) ≤ z ↔ acc (ix3 0 r l) ≤ z ∧
      ∀ i q, i.val % 8 = r.val → q.val % 128 = l.val → abs32 (G i q) ≤ z := by
  simp only [amV_le]
  constructor
  · rintro ⟨⟨⟨⟨ha, k0⟩, k1⟩, k2⟩, k3⟩
    refine ⟨ha, fun i q hi hq => ?_⟩
    have hi' := i.isLt
    rcases Nat.lt_or_ge i.val 256 with h | h
    · rw [← h0 ⟨i.val, by omega⟩ q i (by simp)]; exact k0 _ _ (by show i.val % 8 = _; omega) hq
    rcases Nat.lt_or_ge i.val 512 with h' | h'
    · rw [← h1 ⟨i.val - 256, by omega⟩ q i (by show _ = 256 + (i.val - 256); omega)]
      exact k1 _ _ (by show (i.val - 256) % 8 = _; omega) hq
    rcases Nat.lt_or_ge i.val 768 with h'' | h''
    · rw [← h2 ⟨i.val - 512, by omega⟩ q i (by show _ = 512 + (i.val - 512); omega)]
      exact k2 _ _ (by show (i.val - 512) % 8 = _; omega) hq
    · rw [← h3 ⟨i.val - 768, by omega⟩ q i (by show _ = 768 + (i.val - 768); omega)]
      exact k3 _ _ (by show (i.val - 768) % 8 = _; omega) hq
  · rintro ⟨ha, k⟩
    refine ⟨⟨⟨⟨ha, fun p q hp hq => ?_⟩, fun p q hp hq => ?_⟩, fun p q hp hq => ?_⟩, fun p q hp hq => ?_⟩
    · rw [h0 p q ⟨0 + p.val, by omega⟩ rfl]; exact k _ _ (by show (0 + p.val) % 8 = _; omega) hq
    · rw [h1 p q ⟨256 + p.val, by omega⟩ rfl]; exact k _ _ (by show (256 + p.val) % 8 = _; omega) hq
    · rw [h2 p q ⟨512 + p.val, by omega⟩ rfl]; exact k _ _ (by show (512 + p.val) % 8 = _; omega) hq
    · rw [h3 p q ⟨768 + p.val, by omega⟩ rfl]; exact k _ _ (by show (768 + p.val) % 8 = _; omega) hq

/-- The last store to each of the two rows of maxima is what the buffer holds, whatever was stored before. -/
theorem am_canon (X Y : Vec Ideal S1x8x128 .f32) (L : List (View.Piece (Elt Ideal) S2x8x128 .f32)) (a : Fin 2) (r : Fin 8) (l : Fin 128) :
    View.canon (Val := Elt Ideal) (s := S2x8x128) (e := .f32)
      (⟨Rect.unit ![1, 0, 0] ![1, 8, 128] inb_S2x8x128_S1x8x128_1_0_0, Y⟩ ::
        ⟨Rect.unit ![0, 0, 0] ![1, 8, 128] inb_S2x8x128_S1x8x128_0_0_0, X⟩ :: L) (ix3 a r l) =
      if a.val = 0 then X (ix3 0 r l) else Y (ix3 0 r l) :=
  two_parts X Y L _ _ a r l

/-- A load of one of the two rows of maxima. -/
theorem ld_row (X : Vec Ideal S2x8x128 .f32) (n : ℕ) (a : Fin 2) (ha : a.val = n)
    (inb : ∀ b, (![n, 0, 0] : Fin 3 → ℕ) b + (![1, 8, 128] : Fin 3 → ℕ) b ≤ S2x8x128.size b) (r : Fin 8) (l : Fin 128) :
    View.ld X (Rect.unit (s := S2x8x128) ![n, 0, 0] ![1, 8, 128] inb) (ix3 0 r l) = X (ix3 a r l) := by
  refine congrArg X (funext fun b => ?_)
  fin_cases b
  · exact Fin.ext (show n + 1 * 0 = a.val by omega)
  · exact Fin.ext (show 0 + 1 * r.val = r.val by omega)
  · exact Fin.ext (show 0 + 1 * l.val = l.val by omega)

section
variable (bb : Vec Ideal S1x1x512 .f32) (hb : ∀ j, bb (ix3 0 0 j) = (args m c).b (col t j)) (acc : FVec Ideal S1x8x128 .f32)
  (r : Fin 8) (l : Fin 128) (z : EReal)
include hb

/-- The point's activations taken into the first row of maxima. -/
theorem g_four :
    amV (gP m c t bb 768 inb_S1024x1152_S256x1152_768_0) (amV (gP m c t bb 512 inb_S1024x1152_S256x1152_512_0)
      (amV (gP m c t bb 256 inb_S1024x1152_S256x1152_256_0) (amV (gP m c t bb 0 inb_S1024x1152_S256x1152_0_0) acc))) (ix3 0 r l) ≤ z ↔
    acc (ix3 0 r l) ≤ z ∧ ∀ i q, i.val % 8 = r.val → q.val % 128 = l.val → abs32 ((args m c).g i (col t q)) ≤ z :=
  am_four (fun i q => (args m c).g i (col t q)) _ _ _ _ acc (g_at m c t bb hb 0 _) (g_at m c t bb hb 256 _) (g_at m c t bb hb 512 _)
    (g_at m c t bb hb 768 _) r l z

/-- The point's cotangents taken into the second row of maxima. -/
theorem du_four :
    amV (duP m c t bb 768 inb_S1024x1152_S256x1152_768_0) (amV (duP m c t bb 512 inb_S1024x1152_S256x1152_512_0)
      (amV (duP m c t bb 256 inb_S1024x1152_S256x1152_256_0) (amV (duP m c t bb 0 inb_S1024x1152_S256x1152_0_0) acc))) (ix3 0 r l) ≤ z ↔
    acc (ix3 0 r l) ≤ z ∧ ∀ i q, i.val % 8 = r.val → q.val % 128 = l.val → abs32 ((args m c).du i (col t q)) ≤ z :=
  am_four (fun i q => (args m c).du i (col t q)) _ _ _ _ acc (du_at m c t bb hb 0 _) (du_at m c t bb hb 256 _) (du_at m c t bb hb 512 _)
    (du_at m c t bb hb 768 _) r l z

end

end Cert.KernelIdeal.Val
-- ==== Proof.Scratch.lean ====
/-
  The two buffers the kernel keeps between grid points: the bias, one row per point, and the transpose of `h`. The first
  point fills them, every later one reads them unchanged.
-/
module

public import proofs.«01_k».proof.Proof.Tiles

@[expose] public section

set_option maxRecDepth 16384

noncomputable section

namespace Cert.KernelIdeal.Val

open Cert.KernelIdeal Cert.KernelIdeal.Gen Cert.KernelIdeal.Value Idealize.ShloMosaic Idealize.ShloMosaic.TcCoe Idealize.SL.Sem
open Cert.Mlp

variable (m : (ℓ : Loc nD τ sig) → Buf (Elt Ideal) ℓ) (c : Dev nD) (t : Fin cfg0.N)

/-! ## The two scratch buffers -/

/-- One row of the bias scratch as it is stored: 512 entries of the bias, reshaped. -/
theorem bias_row (o : ℕ) (inb : ∀ a, (![o] : Fin 1 → ℕ) a + (![512] : Fin 1 → ℕ) a ≤ S4608.size a) (x : S1x1x512.Idx) (i : Fin 4608)
    (hi : i.val = o + (x 2).val) :
    shapeCast S1x1x512 (shapeCast S1x512 (View.ld (iblk m c 6 t) (Rect.unit (s := S4608) ![o] ![512] inb)) shapeCasts_S512_S1x512)
      shapeCasts_S1x512_S1x1x512 x = (args m c).b i := by
  idx_vars x
  pointwise []
  refine (congrArg (iblk m c 6 t) (funext fun a => ?_ : _ = ix1 i)).trans (iblk6 m c t i)
  fin_cases a
  exact Fin.ext hi.symm

/-- The first point leaves the whole bias in its scratch buffer, as nine rows of 512. -/
theorem bias_A (acc) (h0 : t.val % 9 = 0) (i : Fin 9) (j : Fin 512) :
    (stAt0 m c t.val t.isLt acc).2.2.2.2.2.2.2.2 (ix3 i 0 j) = (args m c).b ⟨512 * i.val + j.val, by omega⟩ := by
  rw [stAt0_A m c t acc h0]
  frame_open
  frame_out
  have e0 : i.val = (ix3 i (0 : Fin 1) j 0).val := rfl
  have e2 : j.val = (ix3 i (0 : Fin 1) j 2).val := rfl
  canon_tiles x h
  all_goals exact bias_row m c t _ _ x _ (by show 512 * i.val + j.val = _; omega)

/-- The first point leaves `h`, transposed, in its scratch buffer. -/
theorem hT_A (acc) (h0 : t.val % 9 = 0) (k : Fin 1152) (i : Fin 1024) :
    (stAt0 m c t.val t.isLt acc).2.2.2.2.2.2.2.1 (ix2 k i) = (args m c).h i k := by
  rw [stAt0_A m c t acc h0]
  frame_open
  frame_out
  pointwise [k0_pay1]
  exact iblk3 m c t i k

/-- A later point keeps the bias. -/
theorem bias_B (acc) (h0 : ¬ t.val % 9 = 0) :
    (stAt0 m c t.val t.isLt acc).2.2.2.2.2.2.2.2 = acc.2.2.2.2.2.2.2.2 := by
  have e := congrArg (fun a => a.2.2.2.2.2.2.2.2) (stAt0_B m c t acc h0)
  dsimp only at e
  unfold sout0_B_1 at e
  exact e

/-- A later point keeps the transpose of `h`. -/
theorem hT_B (acc) (h0 : ¬ t.val % 9 = 0) :
    (stAt0 m c t.val t.isLt acc).2.2.2.2.2.2.2.1 = acc.2.2.2.2.2.2.2.1 := by
  have e := congrArg (fun a => a.2.2.2.2.2.2.2.1) (stAt0_B m c t acc h0)
  dsimp only at e
  unfold sout0_B_0 at e
  exact e

/-- The row of the bias scratch that point `t` loads. -/
theorem ld_bias (S : Vec Ideal S9x1x512 .f32)
    (hS : ∀ (i : Fin 9) (j : Fin 512), S (ix3 i 0 j) = (args m c).b ⟨512 * i.val + j.val, by omega⟩)
    (inb : ∀ a, k0_off1 (grid0.coords t) a + (![1, 1, 512] : Fin 3 → ℕ) a ≤ S9x1x512.size a) (j : Fin 512) :
    View.ld S (Rect.unit (s := S9x1x512) (k0_off1 (grid0.coords t)) ![1, 1, 512] inb) (ix3 0 0 j) = (args m c).b (col t j) := by
  have hc : ∀ t : Fin grid0.N, k0_off1 (grid0.coords t) = ![t.val, 0, 0] := by decide +kernel
  have hN : cfg0.N = 9 := N_0
  refine (congrArg S (funext fun a => ?_ : _ = ix3 ⟨t.val, hN ▸ t.isLt⟩ 0 j)).trans (hS _ _)
  have e : ∀ a, k0_off1 (grid0.coords t) a = (![t.val, 0, 0] : Fin 3 → ℕ) a := fun a => congrFun (hc t) a
  refine Fin.ext ?_
  fin_cases a
  · show k0_off1 (grid0.coords t) 0 + 1 * 0 = t.val
    rw [e 0]; rfl
  · show k0_off1 (grid0.coords t) 1 + 1 * 0 = 0
    rw [e 1]; rfl
  · show k0_off1 (grid0.coords t) 2 + 1 * j.val = j.val
    rw [e 2]; show 0 + 1 * j.val = j.val; omega

end Cert.KernelIdeal.Val
-- ==== Proof.Step.lean ====
/-
  What one grid point leaves in each result's buffer, over what the point before left (`acc`). Given that the bias
  scratch holds the bias after the point (`hS`), the point leaves its block of the two arrays of codes; adds its 512
  columns' terms to the two running products, which start at zero at the first point; and takes its columns into the
  running maxima.
-/
module

public import proofs.«01_k».proof.Proof.Scratch

@[expose] public section

set_option maxRecDepth 16384

noncomputable section

namespace Cert.KernelIdeal.Val

open Cert.KernelIdeal Cert.KernelIdeal.Gen Cert.KernelIdeal.Value Idealize.ShloMosaic Idealize.ShloMosaic.TcCoe Idealize.SL.Sem
open Cert.Mlp

variable (m : (ℓ : Loc nD τ sig) → Buf (Elt Ideal) ℓ) (c : Dev nD) (t : Fin cfg0.N)

/-- The `j`-th element of the `i`-th 512 elements of the bias. -/
abbrev cell (i : Fin 9) (j : Fin 512) : Fin 4608 := ⟨512 * i.val + j.val, by omega⟩

section
variable (acc)
  (hS : ∀ (i : Fin 9) (j : Fin 512),
    (stAt0 m c t.val t.isLt acc).2.2.2.2.2.2.2.2 (ix3 i 0 j) = (args m c).b (cell i j))
include hS

/-- The point leaves its columns of the activation's codes. -/
theorem step_g (y : S1024x512.Idx) : (stAt0 m c t.val t.isLt acc).1 y = (args m c).gC (y 0) (col t (y 1)) := by
  by_cases h0 : t.val % 9 = 0
  · have e := congrArg (fun a => a.2.2.2.2.2.2.2.2) (stAt0_A m c t acc h0)
    dsimp only at e
    frame_out at e
    rw [stAt0_A m c t acc h0]
    frame_open
    simp (disch := decide) only [↓ View.readCov_skip, ↓ View.readCov_cons_toLoadRect, ↓ View.readCov_fill]
    frame_out
    rw [← e]
    simp only [gc0, gc1, gc2, gc3, sc2, sc3, sc4, sc5, scp, scq]
    exact g_canon m c t _ (ld_bias m c t _ hS _) y
  · have e := congrArg (fun a => a.2.2.2.2.2.2.2.2) (stAt0_B m c t acc h0)
    dsimp only at e
    unfold sout0_B_1 at e
    rw [stAt0_B m c t acc h0]
    frame_open
    simp (disch := decide) only [↓ View.readCov_skip, ↓ View.readCov_cons_toLoadRect, ↓ View.readCov_fill]
    frame_out
    simp only [read_unread_whole]
    rw [← e]
    simp only [gc0, gc1, gc2, gc3, sc2, sc3, sc4, sc5, scp, scq]
    exact g_canon m c t _ (ld_bias m c t _ hS _) y

/-- The point leaves its columns of the cotangent's codes. -/
theorem step_du (y : S1024x512.Idx) : (stAt0 m c t.val t.isLt acc).2.1 y = (args m c).duC (y 0) (col t (y 1)) := by
  by_cases h0 : t.val % 9 = 0
  · have e := congrArg (fun a => a.2.2.2.2.2.2.2.2) (stAt0_A m c t acc h0)
    dsimp only at e
    frame_out at e
    rw [stAt0_A m c t acc h0]
    frame_open
    simp (disch := decide) only [↓ View.readCov_skip, ↓ View.readCov_cons_toLoadRect, ↓ View.readCov_fill]
    frame_out
    rw [← e]
    simp only [duc0, duc1, duc2, duc3, sc2, sc3, sc4, sc5, scp, scq]
    exact du_canon m c t _ (ld_bias m c t _ hS _) y
  · have e := congrArg (fun a => a.2.2.2.2.2.2.2.2) (stAt0_B m c t acc h0)
    dsimp only at e
    unfold sout0_B_1 at e
    rw [stAt0_B m c t acc h0]
    frame_open
    simp (disch := decide) only [↓ View.readCov_skip, ↓ View.readCov_cons_toLoadRect, ↓ View.readCov_fill]
    frame_out
    simp only [read_unread_whole]
    rw [← e]
    simp only [duc0, duc1, duc2, duc3, sc2, sc3, sc4, sc5, scp, scq]
    exact du_canon m c t _ (ld_bias m c t _ hS _) y

/-- The point adds its 512 terms to the first running product, which starts at zero. -/
theorem step_f (y : S1024x1152.Idx) : (stAt0 m c t.val t.isLt acc).2.2.1 y =
    (if t.val % 9 = 0 then 0 else acc.2.2.1 y) + ∑ k, (args m c).gC (y 0) (col t k) * (args m c).w2 (col t k) (y 1) := by
  by_cases h0 : t.val % 9 = 0
  · have e := congrArg (fun a => a.2.2.2.2.2.2.2.2) (stAt0_A m c t acc h0)
    dsimp only at e
    frame_out at e
    rw [if_pos h0, stAt0_A m c t acc h0]
    frame_open
    simp (disch := decide) only [↓ View.readCov_skip, ↓ View.readCov_cons_toLoadRect, ↓ View.readCov_fill]
    frame_out
    rw [← e]
    simp only [gc0, gc1, gc2, gc3, f0, f1, f2, f3, sc2, sc3, sc4, sc5, scp, scq]
    clear e
    have hb := ld_bias m c t _ hS (k0_off1_inb (grid0.coords t))
    refine (f_canon m c t _ hb (k0_pay11 (F := Ideal)) _ y).trans ?_
    exact congrArg (· + _) Ideal.ofBits_zero_f32
  · have e := congrArg (fun a => a.2.2.2.2.2.2.2.2) (stAt0_B m c t acc h0)
    dsimp only at e
    unfold sout0_B_1 at e
    rw [if_neg h0, stAt0_B m c t acc h0]
    frame_open
    simp (disch := decide) only [↓ View.readCov_skip, ↓ View.readCov_cons_toLoadRect, ↓ View.readCov_fill]
    frame_out
    simp only [read_unread_whole]
    rw [← e]
    simp only [gc0, gc1, gc2, gc3, f0, f1, f2, f3, sc2, sc3, sc4, sc5, scp, scq]
    clear e
    have hb := ld_bias m c t _ hS (k0_off1_inb (grid0.coords t))
    refine (f_canon m c t _ hb (acc.2.2.1) _ y).trans ?_
    rfl

/-- The point adds its 512 terms to the second running product, which starts at zero. -/
theorem step_dh (y : S1024x1152.Idx) : (stAt0 m c t.val t.isLt acc).2.2.2.1 y =
    (if t.val % 9 = 0 then 0 else acc.2.2.2.1 y) + ∑ k, (args m c).duC (y 0) (col t k) * (args m c).w1 (y 1) (col t k) := by
  by_cases h0 : t.val % 9 = 0
  · have e := congrArg (fun a => a.2.2.2.2.2.2.2.2) (stAt0_A m c t acc h0)
    dsimp only at e
    frame_out at e
    rw [if_pos h0, stAt0_A m c t acc h0]
    frame_open
    simp (disch := decide) only [↓ View.readCov_skip, ↓ View.readCov_cons_toLoadRect, ↓ View.readCov_fill]
    frame_out
    rw [← e]
    simp only [duc0, duc1, duc2, duc3, dh0, dh1, dh2, dh3, sc2, sc3, sc4, sc5, scp, scq]
    clear e
    have hb := ld_bias m c t _ hS (k0_off1_inb (grid0.coords t))
    refine (dh_canon m c t _ hb (k0_pay12 (F := Ideal)) _ y).trans ?_
    exact congrArg (· + _) Ideal.ofBits_zero_f32
  · have e := congrArg (fun a => a.2.2.2.2.2.2.2.2) (stAt0_B m c t acc h0)
    dsimp only at e
    unfold sout0_B_1 at e
    rw [if_neg h0, stAt0_B m c t acc h0]
    frame_open
    simp (disch := decide) only [↓ View.readCov_skip, ↓ View.readCov_cons_toLoadRect, ↓ View.readCov_fill]
    frame_out
    simp only [read_unread_whole]
    rw [← e]
    simp only [duc0, duc1, duc2, duc3, dh0, dh1, dh2, dh3, sc2, sc3, sc4, sc5, scp, scq]
    clear e
    have hb := ld_bias m c t _ hS (k0_off1_inb (grid0.coords t))
    refine (dh_canon m c t _ hb (acc.2.2.2.1) _ y).trans ?_
    rfl

/-- The point leaves its columns of the gradient of `W₁`. -/
theorem step_dw1
    (hT : ∀ (k : Fin 1152) (i : Fin 1024), (stAt0 m c t.val t.isLt acc).2.2.2.2.2.2.2.1 (ix2 k i) = (args m c).h i k)
    (k : Fin 1152) (q : Fin 512) : (stAt0 m c t.val t.isLt acc).2.2.2.2.1 (ix2 k q) = (args m c).dw1 k (col t q) := by
  by_cases h0 : t.val % 9 = 0
  · have e := congrArg (fun a => a.2.2.2.2.2.2.2.2) (stAt0_A m c t acc h0)
    dsimp only at e
    frame_out at e
    have e0 := congrArg (fun a => a.2.2.2.2.2.2.2.1) (stAt0_A m c t acc h0)
    dsimp only at e0
    frame_out at e0
    rw [stAt0_A m c t acc h0]
    frame_open
    simp (disch := decide) only [↓ View.readCov_skip, ↓ View.readCov_cons_toLoadRect, ↓ View.readCov_fill]
    frame_out
    rw [← e, ← e0]
    simp only [duc0, duc1, duc2, duc3, sc2, sc3, sc4, sc5, scp, scq]
    clear e
    refine dw1_at m c t _ _ hT (k := k) (q := q) fun i q => ?_
    simp only [View.readCov_eq_canon']
    refine (congrArg _ (whole_idx _ i q)).trans ?_
    exact du_canon m c t _ (ld_bias m c t _ hS _) (ix2 i q)
  · have e := congrArg (fun a => a.2.2.2.2.2.2.2.2) (stAt0_B m c t acc h0)
    dsimp only at e
    unfold sout0_B_1 at e
    have e0 := congrArg (fun a => a.2.2.2.2.2.2.2.1) (stAt0_B m c t acc h0)
    dsimp only at e0
    unfold sout0_B_0 at e0
    rw [stAt0_B m c t acc h0]
    frame_open
    simp (disch := decide) only [↓ View.readCov_skip, ↓ View.readCov_cons_toLoadRect, ↓ View.readCov_fill]
    frame_out
    simp only [read_unread_whole]
    rw [← e, ← e0]
    simp only [duc0, duc1, duc2, duc3, sc2, sc3, sc4, sc5, scp, scq]
    clear e
    refine dw1_at m c t _ _ hT (k := k) (q := q) fun i q => ?_
    simp only [View.readCov_eq_canon']
    refine (congrArg _ (whole_idx _ i q)).trans ?_
    exact du_canon m c t _ (ld_bias m c t _ hS _) (ix2 i q)

/-- The point leaves its rows of the gradient of `W₂`. -/
theorem step_dw2
    (q : Fin 512) (k : Fin 1152) : (stAt0 m c t.val t.isLt acc).2.2.2.2.2.1 (ix2 q k) = (args m c).dw2 (col t q) k := by
  by_cases h0 : t.val % 9 = 0
  · have e := congrArg (fun a => a.2.2.2.2.2.2.2.2) (stAt0_A m c t acc h0)
    dsimp only at e
    frame_out at e
    rw [stAt0_A m c t acc h0]
    frame_open
    simp (disch := decide) only [↓ View.readCov_skip, ↓ View.readCov_cons_toLoadRect, ↓ View.readCov_fill]
    frame_out
    rw [← e]
    simp only [gc0, gc1, gc2, gc3, sc2, sc3, sc4, sc5, scp, scq]
    clear e
    refine dw2_at m c t _ (q := q) (k := k) fun i q => ?_
    simp only [View.readCov_eq_canon']
    refine (congrArg _ (whole_idx _ i q)).trans ?_
    exact g_canon m c t _ (ld_bias m c t _ hS _) (ix2 i q)
  · have e := congrArg (fun a => a.2.2.2.2.2.2.2.2) (stAt0_B m c t acc h0)
    dsimp only at e
    unfold sout0_B_1 at e
    rw [stAt0_B m c t acc h0]
    frame_open
    simp (disch := decide) only [↓ View.readCov_skip, ↓ View.readCov_cons_toLoadRect, ↓ View.readCov_fill]
    frame_out
    simp only [read_unread_whole]
    rw [← e]
    simp only [gc0, gc1, gc2, gc3, sc2, sc3, sc4, sc5, scp, scq]
    clear e
    refine dw2_at m c t _ (q := q) (k := k) fun i q => ?_
    simp only [View.readCov_eq_canon']
    refine (congrArg _ (whole_idx _ i q)).trans ?_
    exact g_canon m c t _ (ld_bias m c t _ hS _) (ix2 i q)

/-- The point takes its columns' absolute values into the running maxima, which start at zero. -/
theorem step_am (a : Fin 2) (r : Fin 8) (l : Fin 128) (z : EReal) :
    (stAt0 m c t.val t.isLt acc).2.2.2.2.2.2.1 (ix3 a r l) ≤ z ↔
    (if t.val % 9 = 0 then 0 else acc.2.2.2.2.2.2.1 (ix3 a r l)) ≤ z ∧ ∀ i q, i.val % 8 = r.val → q.val % 128 = l.val →
      abs32 (if a.val = 0 then (args m c).g i (col t q) else (args m c).du i (col t q)) ≤ z := by
  by_cases h0 : t.val % 9 = 0
  · have e := congrArg (fun a => a.2.2.2.2.2.2.2.2) (stAt0_A m c t acc h0)
    dsimp only at e
    frame_out at e
    rw [if_pos h0, stAt0_A m c t acc h0]
    frame_open
    simp (disch := decide) only [↓ View.readCov_skip, ↓ View.readCov_cons_toLoadRect, ↓ View.readCov_fill]
    frame_out
    rw [← e]
    simp only [g0, g1, g2, g3, du0, du1, du2, du3, am0g, am0d, am1g, am1d, am2g, am2d, am3g, am3d, sc2, sc3, sc4, sc5, scp, scq]
    clear e
    have hb := ld_bias m c t _ hS (k0_off1_inb (grid0.coords t))
    rw [am_canon]
    by_cases ha : a.val = 0
    · obtain rfl : a = 0 := Fin.ext ha
      simp only [if_pos ha]
      exact (g_four m c t _ hb _ r l z).trans (and_congr_left' (by rw [ld_row _ 0 0 rfl]; exact iff_of_eq (congrArg (· ≤ z) Ideal.ofBits_zero_f32)))
    · obtain rfl : a = 1 := Fin.ext (by show a.val = 1; omega)
      simp only [if_neg ha]
      exact (du_four m c t _ hb _ r l z).trans (and_congr_left' (by rw [ld_row _ 1 1 rfl]; exact iff_of_eq (congrArg (· ≤ z) Ideal.ofBits_zero_f32)))
  · have e := congrArg (fun a => a.2.2.2.2.2.2.2.2) (stAt0_B m c t acc h0)
    dsimp only at e
    unfold sout0_B_1 at e
    rw [if_neg h0, stAt0_B m c t acc h0]
    frame_open
    simp (disch := decide) only [↓ View.readCov_skip, ↓ View.readCov_cons_toLoadRect, ↓ View.readCov_fill]
    frame_out
    simp only [read_unread_whole]
    rw [← e]
    simp only [g0, g1, g2, g3, du0, du1, du2, du3, am0g, am0d, am1g, am1d, am2g, am2d, am3g, am3d, sc2, sc3, sc4, sc5, scp, scq]
    clear e
    have hb := ld_bias m c t _ hS (k0_off1_inb (grid0.coords t))
    rw [am_canon]
    by_cases ha : a.val = 0
    · obtain rfl : a = 0 := Fin.ext ha
      simp only [if_pos ha]
      exact (g_four m c t _ hb _ r l z).trans (and_congr_left' (by rw [ld_row _ 0 0 rfl]))
    · obtain rfl : a = 1 := Fin.ext (by show a.val = 1; omega)
      simp only [if_neg ha]
      exact (du_four m c t _ hb _ r l z).trans (and_congr_left' (by rw [ld_row _ 1 1 rfl]))

end

end Cert.KernelIdeal.Val
-- ==== Proof.Sweep.lean ====
/-
  What the buffers hold after each grid point, by induction over the points: the scratch buffers their contents from the
  first point on, the running products the sum of the columns so far, the running maxima the greatest of zero and the
  absolute values so far, and the block outputs their block.
-/
module

public import proofs.«01_k».proof.Proof.Step

@[expose] public section

set_option maxRecDepth 16384

noncomputable section

namespace Cert.KernelIdeal.Val

open Cert.KernelIdeal Cert.KernelIdeal.Gen Cert.KernelIdeal.Value Idealize.ShloMosaic Idealize.ShloMosaic.TcCoe Idealize.SL.Sem
open Cert.Mlp

variable (m : (ℓ : Loc nD τ sig) → Buf (Elt Ideal) ℓ) (c : Dev nD)

/-! ## Sums over 4608 columns, 512 at a time -/

/-- The sum of the 512 terms from `512 s`. -/
def tile (T : Fin 4608 → EReal) (s : ℕ) : EReal :=
  if h : s < 9 then ∑ k : Fin 512, T ⟨512 * s + k.val, by omega⟩ else 0

/-- A point's terms are the tile of its number. -/
theorem tile_col (T : Fin 4608 → EReal) (t : Fin cfg0.N) : tile T t.val = ∑ k, T (col t k) :=
  dif_pos (lt_of_lt_of_eq t.isLt N_0)

/-- The nine tiles are the whole sum. -/
theorem sum_tile (T : Fin 4608 → EReal) : ∑ s ∈ Finset.range 9, tile T s = ∑ j, T j := by
  rw [Finset.sum_range, ← (finProdFinEquiv (m := 9) (n := 512)).sum_comp T, Fintype.sum_prod_type]
  refine Finset.sum_congr rfl fun s _ => ?_
  rw [tile, dif_pos s.isLt]
  refine Finset.sum_congr rfl fun k _ => congrArg T (Fin.ext ?_)
  show 512 * s.val + k.val = k.val + 512 * s.val
  omega

/-! ## The points -/

/-- Every point's contents are the step's, over some contents before it. -/
theorem point (t : Fin cfg0.N) : ∃ acc, outsAt0 m c t.val t.isLt = stAt0 m c t.val t.isLt acc := by
  obtain ⟨n, hn⟩ := t
  cases n with
  | zero => exact ⟨_, outsAt0_zero m c hn⟩
  | succ n => exact ⟨_, outsAt0_succ m c n hn⟩

/-- No point but the first starts a run. -/
theorem later {n : ℕ} (hn : n + 1 < cfg0.N) : ¬ (n + 1) % 9 = 0 := by
  have : cfg0.N = 9 := N_0
  omega

/-- After every point the bias scratch holds the bias. -/
theorem bias : ∀ (n : ℕ) (hn : n < cfg0.N) (i : Fin 9) (j : Fin 512),
    (outsAt0 m c n hn).2.2.2.2.2.2.2.2 (ix3 i 0 j) = (args m c).b (cell i j)
  | 0, hn, i, j => by rw [outsAt0_zero]; exact bias_A m c ⟨0, hn⟩ _ rfl i j
  | n + 1, hn, i, j => by
    rw [outsAt0_succ, bias_B m c ⟨n + 1, hn⟩ _ (later hn)]
    exact bias n _ i j

/-- After every point the other scratch holds the transpose of `h`. -/
theorem hT : ∀ (n : ℕ) (hn : n < cfg0.N) (k : Fin 1152) (i : Fin 1024),
    (outsAt0 m c n hn).2.2.2.2.2.2.2.1 (ix2 k i) = (args m c).h i k
  | 0, hn, k, i => by rw [outsAt0_zero]; exact hT_A m c ⟨0, hn⟩ _ rfl k i
  | n + 1, hn, k, i => by
    rw [outsAt0_succ, hT_B m c ⟨n + 1, hn⟩ _ (later hn)]
    exact hT n _ k i

/-! ## The outputs written block by block -/

theorem at_g (t : Fin cfg0.N) (y : S1024x512.Idx) : (outsAt0 m c t.val t.isLt).1 y = (args m c).gC (y 0) (col t (y 1)) := by
  obtain ⟨acc, e⟩ := point m c t
  have hS := bias m c t.val t.isLt
  rw [e] at hS ⊢
  exact step_g m c t acc hS y

theorem at_du (t : Fin cfg0.N) (y : S1024x512.Idx) : (outsAt0 m c t.val t.isLt).2.1 y = (args m c).duC (y 0) (col t (y 1)) := by
  obtain ⟨acc, e⟩ := point m c t
  have hS := bias m c t.val t.isLt
  rw [e] at hS ⊢
  exact step_du m c t acc hS y

theorem at_dw1 (t : Fin cfg0.N) (k : Fin 1152) (q : Fin 512) :
    (outsAt0 m c t.val t.isLt).2.2.2.2.1 (ix2 k q) = (args m c).dw1 k (col t q) := by
  obtain ⟨acc, e⟩ := point m c t
  have hS := bias m c t.val t.isLt
  have hH := hT m c t.val t.isLt
  rw [e] at hS hH ⊢
  exact step_dw1 m c t acc hS hH k q

theorem at_dw2 (t : Fin cfg0.N) (q : Fin 512) (k : Fin 1152) :
    (outsAt0 m c t.val t.isLt).2.2.2.2.2.1 (ix2 q k) = (args m c).dw2 (col t q) k := by
  obtain ⟨acc, e⟩ := point m c t
  have hS := bias m c t.val t.isLt
  rw [e] at hS ⊢
  exact step_dw2 m c t acc hS q k

/-! ## The running outputs -/

/-- After point `n` the first running product is the sum over the tiles up to `n`. -/
theorem at_f : ∀ (n : ℕ) (hn : n < cfg0.N) (y : S1024x1152.Idx), (outsAt0 m c n hn).2.2.1 y =
    ∑ s ∈ Finset.range (n + 1), tile (fun j => (args m c).gC (y 0) j * (args m c).w2 j (y 1)) s
  | 0, hn, y => by
    have hS := bias m c 0 hn
    rw [outsAt0_zero] at hS ⊢
    rw [step_f m c ⟨0, hn⟩ _ hS y, if_pos (show (⟨0, hn⟩ : Fin cfg0.N).val % 9 = 0 from rfl), zero_add, Finset.sum_range_one]
    exact (tile_col (fun j => (args m c).gC (y 0) j * (args m c).w2 j (y 1)) ⟨0, hn⟩).symm
  | n + 1, hn, y => by
    have hS := bias m c (n + 1) hn
    rw [outsAt0_succ] at hS ⊢
    rw [step_f m c ⟨n + 1, hn⟩ _ hS y, if_neg (later hn), at_f n _ y, Finset.sum_range_succ _ (n + 1)]
    exact congrArg (_ + ·) (tile_col (fun j => (args m c).gC (y 0) j * (args m c).w2 j (y 1)) ⟨n + 1, hn⟩).symm

/-- After point `n` the second running product is the sum over the tiles up to `n`. -/
theorem at_dh : ∀ (n : ℕ) (hn : n < cfg0.N) (y : S1024x1152.Idx), (outsAt0 m c n hn).2.2.2.1 y =
    ∑ s ∈ Finset.range (n + 1), tile (fun j => (args m c).duC (y 0) j * (args m c).w1 (y 1) j) s
  | 0, hn, y => by
    have hS := bias m c 0 hn
    rw [outsAt0_zero] at hS ⊢
    rw [step_dh m c ⟨0, hn⟩ _ hS y, if_pos (show (⟨0, hn⟩ : Fin cfg0.N).val % 9 = 0 from rfl), zero_add, Finset.sum_range_one]
    exact (tile_col (fun j => (args m c).duC (y 0) j * (args m c).w1 (y 1) j) ⟨0, hn⟩).symm
  | n + 1, hn, y => by
    have hS := bias m c (n + 1) hn
    rw [outsAt0_succ] at hS ⊢
    rw [step_dh m c ⟨n + 1, hn⟩ _ hS y, if_neg (later hn), at_dh n _ y, Finset.sum_range_succ _ (n + 1)]
    exact congrArg (_ + ·) (tile_col (fun j => (args m c).duC (y 0) j * (args m c).w1 (y 1) j) ⟨n + 1, hn⟩).symm

/-- After point `n` the running maxima are the greatest of zero and the absolute values in the columns up to `n`'s. -/
theorem at_am : ∀ (n : ℕ) (hn : n < cfg0.N) (a : Fin 2) (r : Fin 8) (l : Fin 128) (z : EReal),
    (outsAt0 m c n hn).2.2.2.2.2.2.1 (ix3 a r l) ≤ z ↔ 0 ≤ z ∧ ∀ i (j : Fin 4608), j.val < 512 * (n + 1) →
      i.val % 8 = r.val → j.val % 128 = l.val → abs32 ((args m c).amArr a i j) ≤ z
  | 0, hn, a, r, l, z => by
    have hS := bias m c 0 hn
    rw [outsAt0_zero] at hS ⊢
    rw [step_am m c ⟨0, hn⟩ _ hS a r l z, if_pos (show (⟨0, hn⟩ : Fin cfg0.N).val % 9 = 0 from rfl)]
    refine and_congr_right fun _ => ⟨fun h i j hj hi hl => ?_, fun h i q hi hl => ?_⟩
    · have := h i ⟨j.val, by omega⟩ hi hl
      rwa [show col ⟨0, hn⟩ ⟨j.val, by omega⟩ = j from Fin.ext (by show 512 * 0 + j.val = _; omega)] at this
    · exact h i (col ⟨0, hn⟩ q) (by show 512 * 0 + q.val < _; omega) hi (by show (512 * 0 + q.val) % 128 = _; omega)
  | n + 1, hn, a, r, l, z => by
    have hS := bias m c (n + 1) hn
    rw [outsAt0_succ] at hS ⊢
    rw [step_am m c ⟨n + 1, hn⟩ _ hS a r l z, if_neg (later hn), at_am n _ a r l z, and_assoc]
    refine and_congr_right fun _ => ⟨fun ⟨h, h'⟩ i j hj hi hl => ?_, fun h => ⟨fun i j hj hi hl => h i j (by omega) hi hl, fun i q hi hl => ?_⟩⟩
    · rcases Nat.lt_or_ge j.val (512 * (n + 1)) with hlt | hge
      · exact h i j hlt hi hl
      · have := h' i ⟨j.val - 512 * (n + 1), by omega⟩ hi (by show (j.val - 512 * (n + 1)) % 128 = _; omega)
        rwa [show col ⟨n + 1, hn⟩ ⟨j.val - 512 * (n + 1), by omega⟩ = j from
          Fin.ext (by show 512 * (n + 1) + (j.val - 512 * (n + 1)) = _; omega)] at this
    · exact h i (col ⟨n + 1, hn⟩ q) (by show 512 * (n + 1) + q.val < _; omega) hi (by show (512 * (n + 1) + q.val) % 128 = _; omega)

end Cert.KernelIdeal.Val
-- ==== Proof.KernelValue.lean ====
/-
  What the pipelined kernel returns, as functions of its arguments: each array of codes and each weight gradient block by
  block, the two products whole, and the maxima as the greatest absolute values of their rows and columns.
-/
module

public import proofs.«01_k».proof.Proof.Sweep

@[expose] public section

set_option maxRecDepth 16384

noncomputable section

namespace Cert.KernelIdeal.Val

open Cert.KernelIdeal Cert.KernelIdeal.Gen Cert.KernelIdeal.Value Idealize.ShloMosaic Idealize.ShloMosaic.TcCoe Idealize.SL.Sem
open Cert.Mlp

variable (m : (ℓ : Loc nD τ sig) → Buf (Elt Ideal) ℓ) (c : Dev nD)

/-- A column of an array of 4608 is a column of its point's block. -/
theorem col_of (n : ℕ) (hn : n < cfg0.N) (j : Fin 4608) (h : n = j.val / 512) (q : Fin 512) (hq : q.val = j.val % 512) :
    col ⟨n, hn⟩ q = j := Fin.ext (by show 512 * n + q.val = j.val; omega)

/-- The returned activation codes. -/
theorem G8_eq (y : S1024x4608.Idx) : G8 m c y = (args m c).gC (y 0) (y 1) := by
  have h0 : (y 0).val < 1024 := (y 0).isLt
  have h1 : (y 1).val < 4608 := (y 1).isLt
  have hp : pt8Of y = (y 1).val / 512 := by
    show 9 * ((y 0).val / 1024 - 0) + 1 * ((y 1).val / 512 - 0) = _
    omega
  have hlt : pt8Of y < cfg0.N := lt_of_lt_of_eq (by omega) N_0.symm
  rw [G8, dif_pos hlt, ← outsAt0_sweep m c _ hlt]
  refine (at_g m c ⟨_, hlt⟩ _).trans (congrArg₂ (args m c).gC (Fin.ext ?_) (col_of _ hlt _ hp _ rfl))
  show (y 0).val % 1024 = (y 0).val
  omega

/-- The returned cotangent codes. -/
theorem G9_eq (y : S1024x4608.Idx) : G9 m c y = (args m c).duC (y 0) (y 1) := by
  have h0 : (y 0).val < 1024 := (y 0).isLt
  have h1 : (y 1).val < 4608 := (y 1).isLt
  have hp : pt9Of y = (y 1).val / 512 := by
    show 9 * ((y 0).val / 1024 - 0) + 1 * ((y 1).val / 512 - 0) = _
    omega
  have hlt : pt9Of y < cfg0.N := lt_of_lt_of_eq (by omega) N_0.symm
  rw [G9, dif_pos hlt, ← outsAt0_sweep m c _ hlt]
  refine (at_du m c ⟨_, hlt⟩ _).trans (congrArg₂ (args m c).duC (Fin.ext ?_) (col_of _ hlt _ hp _ rfl))
  show (y 0).val % 1024 = (y 0).val
  omega

/-- The returned product of the activation codes with `W₂`. -/
theorem G10_eq (y : S1024x1152.Idx) : G10 m c y = (args m c).f (y 0) (y 1) := by
  rw [G10_last, ← outsAt0_sweep m c 8 (lt_of_lt_of_eq (by decide) N_0.symm), at_f]
  exact sum_tile _

/-- The returned product of the cotangent codes with the transpose of `W₁`. -/
theorem G11_eq (y : S1024x1152.Idx) : G11 m c y = (args m c).dh (y 0) (y 1) := by
  rw [G11_last, ← outsAt0_sweep m c 8 (lt_of_lt_of_eq (by decide) N_0.symm), at_dh]
  exact sum_tile _

/-- The returned gradient of `W₁`. -/
theorem G12_eq (y : S1152x4608.Idx) : G12 m c y = (args m c).dw1 (y 0) (y 1) := by
  have h0 : (y 0).val < 1152 := (y 0).isLt
  have h1 : (y 1).val < 4608 := (y 1).isLt
  have hp : pt12Of y = (y 1).val / 512 := by
    show 9 * ((y 0).val / 1152 - 0) + 1 * ((y 1).val / 512 - 0) = _
    omega
  have hlt : pt12Of y < cfg0.N := lt_of_lt_of_eq (by omega) N_0.symm
  have hl : loc12Of y = ix2 (y 0) ⟨(y 1).val % 512, by omega⟩ := by
    funext a
    fin_cases a
    · exact Fin.ext (by show (y 0).val % 1152 = (y 0).val; omega)
    · rfl
  rw [G12, dif_pos hlt, ← outsAt0_sweep m c _ hlt, hl]
  exact (at_dw1 m c ⟨_, hlt⟩ _ _).trans (congrArg _ (col_of _ hlt _ hp _ rfl))

/-- The returned gradient of `W₂`. -/
theorem G13_eq (y : S4608x1152.Idx) : G13 m c y = (args m c).dw2 (y 0) (y 1) := by
  have h0 : (y 0).val < 4608 := (y 0).isLt
  have h1 : (y 1).val < 1152 := (y 1).isLt
  have hp : pt13Of y = (y 0).val / 512 := by
    show 1 * ((y 0).val / 512 - 0) + 1 * ((y 1).val / 1152 - 0) = _
    omega
  have hlt : pt13Of y < cfg0.N := lt_of_lt_of_eq (by omega) N_0.symm
  have hl : loc13Of y = ix2 ⟨(y 0).val % 512, by omega⟩ (y 1) := by
    funext a
    fin_cases a
    · rfl
    · exact Fin.ext (by show (y 1).val % 1152 = (y 1).val; omega)
  rw [G13, dif_pos hlt, ← outsAt0_sweep m c _ hlt, hl]
  exact (at_dw2 m c ⟨_, hlt⟩ _ _).trans (congrArg (fun j => (args m c).dw2 j _) (col_of _ hlt _ hp _ rfl))

/-- The returned maxima: entry `(a, r, l)` is the greatest absolute value, in the activation (`a = 0`) or the cotangent,
    over the rows that are `r` modulo 8 and the columns that are `l` modulo 128. -/
theorem G14_isAmax (a : Fin 2) (r : Fin 8) (l : Fin 128) : IsAmax ((args m c).amArr a) r l (G14 m c (ix3 a r l)) := by
  intro z
  rw [G14_last, ← outsAt0_sweep m c 8 (lt_of_lt_of_eq (by decide) N_0.symm), at_am]
  constructor
  · exact fun h i j hi hl => h.2 i j (by omega) hi hl
  · intro h
    refine ⟨(abs32_nonneg _).trans (h ⟨r.val, by omega⟩ ⟨l.val, by omega⟩ ?_ ?_), fun i j _ hi hl => h i j hi hl⟩
    · show r.val % 8 = r.val
      omega
    · show l.val % 128 = l.val
      omega

end Cert.KernelIdeal.Val
-- ==== Proof.RefParts.lean ====
/-
  What the reference computes, step by step, on whole arrays: each of its values is the specification's function of the
  arrays and scalars it reads.
-/
module

public import proofs.«01_k».proof.Proof.Gen.ReferenceIdeal.Value
public import proofs.«01_k».proof.Proof.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ReferenceIdeal.Val

open Cert.ReferenceIdeal Cert.ReferenceIdeal.Gen Cert.ReferenceIdeal.Value Idealize.ShloMosaic Idealize.ShloMosaic.TcCoe Idealize.SL.Sem
open Cert.Mlp

variable (sc : Fin 8 → EReal) (p q : Elt Ideal .f32) (h : Vec Ideal S1024x1152 .fp8e4m3) (d : Vec Ideal S1024x1152 .fp8e5m2)
  (w1 : Vec Ideal S1152x4608 .fp8e4m3) (b : Vec Ideal S4608 .f32) (w2 : Vec Ideal S4608x1152 .fp8e4m3)

/-- The arrays and scalars as the specification's arguments. -/
def mk : Args where
  sc := sc
  p := p
  q := q
  h i k := h (ix2 i k)
  d i k := d (ix2 i k)
  w1 k j := w1 (ix2 k j)
  b j := b (ix1 j)
  w2 j k := w2 (ix2 j k)

/-- The pre-activation. -/
theorem u_eq : k0_pay5 (F := Ideal) h w1 (sc 2) p b = fun x => (mk sc p q h d w1 b w2).u (x 0) (x 1) := by
  funext x; idx_vars x; pointwise [k0_pay5]; rfl

/-- The tanh of the gelu. -/
theorem th_eq : k0_pay6 (F := Ideal) h w1 (sc 2) p b = fun x => th ((mk sc p q h d w1 b w2).u (x 0) (x 1)) := by
  funext x; idx_vars x; pointwise [k0_pay6, u_eq sc p q h d w1 b w2]; rfl

/-- The activation. -/
theorem g_eq : k0_pay7 (F := Ideal) h w1 (sc 2) p b = fun x => (mk sc p q h d w1 b w2).g (x 0) (x 1) := by
  funext x; idx_vars x; pointwise [k0_pay7, u_eq sc p q h d w1 b w2, th_eq sc p q h d w1 b w2]; rfl

/-- The activation's codes. -/
theorem gC_eq : k0_pay8 (F := Ideal) h w1 (sc 2) (sc 3) p b = fun x => (mk sc p q h d w1 b w2).gC (x 0) (x 1) := by
  funext x; idx_vars x; pointwise [k0_pay8, g_eq sc p q h d w1 b w2]; rfl

/-- The cotangent of the pre-activation. -/
theorem du_eq : k0_pay9 (F := Ideal) d w2 (sc 4) q (k0_pay5 h w1 (sc 2) p b) (k0_pay6 h w1 (sc 2) p b) =
    fun x => (mk sc p q h d w1 b w2).du (x 0) (x 1) := by
  rw [u_eq sc p q h d w1 b w2, th_eq sc p q h d w1 b w2]
  funext x; idx_vars x; pointwise [k0_pay9]; rfl

/-- The cotangent's codes. -/
theorem duC_eq : k0_pay10 (F := Ideal) d w2 (sc 4) (sc 5) q (k0_pay5 h w1 (sc 2) p b) (k0_pay6 h w1 (sc 2) p b) =
    fun x => (mk sc p q h d w1 b w2).duC (x 0) (x 1) := by
  funext x; idx_vars x; pointwise [k0_pay10, du_eq sc p q h d w1 b w2]; rfl

/-- The product of the activation's codes with `W₂`. -/
theorem f_eq : k0_pay11 (F := Ideal) w2 (k0_pay8 h w1 (sc 2) (sc 3) p b) = fun x => (mk sc p q h d w1 b w2).f (x 0) (x 1) := by
  rw [gC_eq sc p q h d w1 b w2]
  funext x; idx_vars x; pointwise [k0_pay11]; rfl

/-- The product of the cotangent's codes with the transpose of `W₁`. -/
theorem dh_eq : k0_pay12 (F := Ideal) d w1 w2 (sc 4) (sc 5) q (k0_pay5 h w1 (sc 2) p b) (k0_pay6 h w1 (sc 2) p b) =
    fun x => (mk sc p q h d w1 b w2).dh (x 0) (x 1) := by
  funext x; idx_vars x; pointwise [k0_pay12, duC_eq sc p q h d w1 b w2]; rfl

/-- The gradient of `W₁`. -/
theorem dw1_eq : k0_pay1 (F := Ideal) h (sc 2) (sc 5)
      (k0_pay10 d w2 (sc 4) (sc 5) q (k0_pay5 h w1 (sc 2) p b) (k0_pay6 h w1 (sc 2) p b)) =
    fun x => (mk sc p q h d w1 b w2).dw1 (x 0) (x 1) := by
  rw [duC_eq sc p q h d w1 b w2]
  funext x; idx_vars x; pointwise [k0_pay1]; rfl

/-- The gradient of `W₂`. -/
theorem dw2_eq : k0_pay2 (F := Ideal) d (sc 3) (sc 4) (k0_pay8 h w1 (sc 2) (sc 3) p b) =
    fun x => (mk sc p q h d w1 b w2).dw2 (x 0) (x 1) := by
  rw [gC_eq sc p q h d w1 b w2]
  funext x; idx_vars x; pointwise [k0_pay2]; rfl

/-! ## The maxima -/

/-- The two nested maxima of `|v|`, over the rows that are `r` modulo 8 and then the columns that are `l` modulo 128. -/
def amax2 (v : FVec Ideal S1024x4608 .f32) (r : Fin 8) (l : Fin 128) : EReal :=
  Finset.fold max (Ideal.ofBits .f32 0xFF800000#32) (fun y : Fin 36 =>
    Finset.fold max (Ideal.ofBits .f32 0xFF800000#32) (fun x : Fin 128 =>
      abs32 (v (ix2 ⟨x.val * 8 + r.val, by omega⟩ ⟨y.val * 128 + l.val, by omega⟩))) Finset.univ) Finset.univ

theorem am3_eq (v : FVec Ideal S1024x4608 .f32) : k0_pay3 v = fun x => amax2 v (x 1) (x 2) := by
  funext x; idx_vars x; pointwise [k0_pay3]; rfl

theorem am4_eq (v : FVec Ideal S1024x4608 .f32) : k0_pay4 v = fun x => amax2 v (x 1) (x 2) := by
  funext x; idx_vars x; pointwise [k0_pay4]; rfl

/-- They are the greatest absolute value over those rows and columns. -/
theorem amax2_isAmax (v : FVec Ideal S1024x4608 .f32) (r : Fin 8) (l : Fin 128) :
    IsAmax (fun i j => v (ix2 i j)) r l (amax2 v r l) := by
  intro z
  unfold amax2
  rw [Finset.fold_max_le]
  simp only [Finset.fold_max_le, neg_inf, bot_le, true_and, Finset.mem_univ, forall_const]
  constructor
  · intro h i j hi hl
    have := h ⟨j.val / 128, by omega⟩ ⟨i.val / 8, by omega⟩
    refine le_of_eq_of_le (congrArg (fun x => abs32 (v x)) (congrArg₂ ix2 (Fin.ext ?_) (Fin.ext ?_))) this
    · show i.val = i.val / 8 * 8 + r.val
      omega
    · show j.val = j.val / 128 * 128 + l.val
      omega
  · intro h y x
    exact h _ _ (by show (x.val * 8 + r.val) % 8 = _; omega) (by show (y.val * 128 + l.val) % 128 = _; omega)

end Cert.ReferenceIdeal.Val
-- ==== Proof.RefValue.lean ====
/-
  What the reference returns, as functions of its arguments: its one grid point writes every result whole.
-/
module

public import proofs.«01_k».proof.Proof.RefParts
public import proofs.«01_k».proof.Proof.Parts

@[expose] public section

set_option maxRecDepth 16384

noncomputable section

namespace Cert.ReferenceIdeal.Val

open Cert.ReferenceIdeal Cert.ReferenceIdeal.Gen Cert.ReferenceIdeal.Value Idealize.ShloMosaic Idealize.ShloMosaic.TcCoe Idealize.SL.Sem
open Cert.Mlp

variable (m : (ℓ : Loc nD τ sig) → Buf (Elt Ideal) ℓ) (c : Dev nD) (t : Fin cfg0.N)

/-- Device `c`'s argument entries. -/
def args : Args :=
  mk (fun k => m ((c : Thread nD τ).loc main_arg0) (ix1 k)) (m ((c : Thread nD τ).loc main_arg1) (ix1 0))
    (m ((c : Thread nD τ).loc main_arg2) (ix1 0)) (m ((c : Thread nD τ).loc main_arg3)) (m ((c : Thread nD τ).loc main_arg4))
    (m ((c : Thread nD τ).loc main_arg5)) (m ((c : Thread nD τ).loc main_arg6)) (m ((c : Thread nD τ).loc main_arg7))

/-- Where each input window's block starts, in blocks. -/
theorem idx : win0_0.index t0_0 = ![0] ∧ win0_1.index t0_0 = ![0] ∧ win0_2.index t0_0 = ![0] ∧ win0_3.index t0_0 = ![0, 0] ∧
    win0_4.index t0_0 = ![0, 0] ∧ win0_5.index t0_0 = ![0, 0] ∧ win0_6.index t0_0 = ![0] ∧ win0_7.index t0_0 = ![0, 0] := by
  decide +kernel

/-! ## Each input's block is its argument -/

theorem iblk0 (k : Fin 8) : iblk m c 0 t0_0 (ix1 k) = (args m c).sc k := by
  obtain ⟨e0, e1, e2, e3, e4, e5, e6, e7⟩ := idx
  blk_point [iblk, V, args, mk, e0]

theorem iblk1 : iblk m c 1 t0_0 (ix1 0) = (args m c).p := by
  obtain ⟨e0, e1, e2, e3, e4, e5, e6, e7⟩ := idx
  blk_point [iblk, V, args, mk, e1]

theorem iblk2 : iblk m c 2 t0_0 (ix1 0) = (args m c).q := by
  obtain ⟨e0, e1, e2, e3, e4, e5, e6, e7⟩ := idx
  blk_point [iblk, V, args, mk, e2]

theorem iblk3 (i : Fin 1024) (k : Fin 1152) : iblk m c 3 t0_0 (ix2 i k) = (args m c).h i k := by
  obtain ⟨e0, e1, e2, e3, e4, e5, e6, e7⟩ := idx
  blk_point [iblk, V, args, mk, e3]

theorem iblk4 (i : Fin 1024) (k : Fin 1152) : iblk m c 4 t0_0 (ix2 i k) = (args m c).d i k := by
  obtain ⟨e0, e1, e2, e3, e4, e5, e6, e7⟩ := idx
  blk_point [iblk, V, args, mk, e4]

theorem iblk5 (k : Fin 1152) (j : Fin 4608) : iblk m c 5 t0_0 (ix2 k j) = (args m c).w1 k j := by
  obtain ⟨e0, e1, e2, e3, e4, e5, e6, e7⟩ := idx
  blk_point [iblk, V, args, mk, e5]

theorem iblk6 (j : Fin 4608) : iblk m c 6 t0_0 (ix1 j) = (args m c).b j := by
  obtain ⟨e0, e1, e2, e3, e4, e5, e6, e7⟩ := idx
  blk_point [iblk, V, args, mk, e6]

theorem iblk7 (j : Fin 4608) (k : Fin 1152) : iblk m c 7 t0_0 (ix2 j k) = (args m c).w2 j k := by
  obtain ⟨e0, e1, e2, e3, e4, e5, e6, e7⟩ := idx
  blk_point [iblk, V, args, mk, e7]

/-- The blocks and scales as the specification's arguments are the argument entries. -/
theorem mk_args : mk (args m c).sc (args m c).p (args m c).q (iblk m c 3 t0_0) (iblk m c 4 t0_0) (iblk m c 5 t0_0)
    (iblk m c 6 t0_0) (iblk m c 7 t0_0) = args m c := by
  unfold mk
  simp only [iblk3, iblk4, iblk5, iblk6, iblk7]

/-! ## The scalars -/

/-- A scalar load of entry `n` of the eight scales. -/
theorem ld_S8 (n : ℕ) (inb : ∀ a, (![n] : Fin 1 → ℕ) a + (![1] : Fin 1 → ℕ) a ≤ S8.size a) (j) :
    View.ld (iblk m c 0 t0_0) (Rect.unit (s := S8) ![n] ![1] inb) j = (args m c).sc ⟨n, Nat.lt_of_succ_le (inb 0)⟩ := by
  refine (congrArg (iblk m c 0 t0_0) (funext fun a => ?_)).trans (iblk0 m c _)
  have h : (j 0).val < 1 := (j 0).isLt
  fin_cases a
  refine Fin.ext ?_
  show n + 1 * (j 0).val = n
  omega

theorem sc2 (j) : View.ld (iblk m c 0 t0_0) (Rect.unit ![2] ![1] inb_S8_S1_2) j = (args m c).sc 2 := ld_S8 m c 2 _ j
theorem sc3 (j) : View.ld (iblk m c 0 t0_0) (Rect.unit ![3] ![1] inb_S8_S1_3) j = (args m c).sc 3 := ld_S8 m c 3 _ j
theorem sc4 (j) : View.ld (iblk m c 0 t0_0) (Rect.unit ![4] ![1] inb_S8_S1_4) j = (args m c).sc 4 := ld_S8 m c 4 _ j
theorem sc5 (j) : View.ld (iblk m c 0 t0_0) (Rect.unit ![5] ![1] inb_S8_S1_5) j = (args m c).sc 5 := ld_S8 m c 5 _ j

theorem scp (h) : iblk m c 1 t0_0 (Shape.Idx.first (s := S1) h) = (args m c).p :=
  (congrArg (iblk m c 1 t0_0) (funext fun a => by fin_cases a; rfl)).trans (iblk1 m c)

theorem scq (h) : iblk m c 2 t0_0 (Shape.Idx.first (s := S1) h) = (args m c).q :=
  (congrArg (iblk m c 2 t0_0) (funext fun a => by fin_cases a; rfl)).trans (iblk2 m c)

/-! ## The results -/

/-- The returned activation codes. -/
theorem R8_eq (y : S1024x4608.Idx) : (dats m 0 c).arrAt 8 cfg0.N y = (args m c).gC (y 0) (y 1) := by
  revert y
  refine congrFun (?_ : _ = fun y : S1024x4608.Idx => (args m c).gC (y 0) (y 1))
  refine (dats m 0 c).arrAt_eq_of_after_last 8 t0_0 (by decide +kernel) _ fun j => ?_
  blk_simp
  rw [after0_8]
  unfold outsAt0
  frame_open
  frame_out
  simp only [read_unread_whole]
  rw [← mk_args m c]
  simp only [sc2, sc3, sc4, sc5, scp, scq]
  exact congrFun (gC_eq (args m c).sc _ _ _ _ _ _ _) j

/-- The returned cotangent codes. -/
theorem R9_eq (y : S1024x4608.Idx) : (dats m 0 c).arrAt 9 cfg0.N y = (args m c).duC (y 0) (y 1) := by
  revert y
  refine congrFun (?_ : _ = fun y : S1024x4608.Idx => (args m c).duC (y 0) (y 1))
  refine (dats m 0 c).arrAt_eq_of_after_last 9 t0_0 (by decide +kernel) _ fun j => ?_
  blk_simp
  rw [after0_9]
  unfold outsAt0
  frame_open
  frame_out
  simp only [read_unread_whole]
  rw [← mk_args m c]
  simp only [sc2, sc3, sc4, sc5, scp, scq]
  exact congrFun (duC_eq (args m c).sc _ _ _ _ _ _ _) j

/-- The returned product of the activation codes with `W₂`. -/
theorem R10_eq (y : S1024x1152.Idx) : (dats m 0 c).arrAt 10 cfg0.N y = (args m c).f (y 0) (y 1) := by
  revert y
  refine congrFun (?_ : _ = fun y : S1024x1152.Idx => (args m c).f (y 0) (y 1))
  refine (dats m 0 c).arrAt_eq_of_after_last 10 t0_0 (by decide +kernel) _ fun j => ?_
  blk_simp
  rw [after0_10]
  unfold outsAt0
  frame_open
  frame_out
  simp only [read_unread_whole]
  rw [← mk_args m c]
  simp only [sc2, sc3, sc4, sc5, scp, scq]
  exact congrFun (f_eq (args m c).sc _ _ _ _ _ _ _) j

/-- The returned product of the cotangent codes with the transpose of `W₁`. -/
theorem R11_eq (y : S1024x1152.Idx) : (dats m 0 c).arrAt 11 cfg0.N y = (args m c).dh (y 0) (y 1) := by
  revert y
  refine congrFun (?_ : _ = fun y : S1024x1152.Idx => (args m c).dh (y 0) (y 1))
  refine (dats m 0 c).arrAt_eq_of_after_last 11 t0_0 (by decide +kernel) _ fun j => ?_
  blk_simp
  rw [after0_11]
  unfold outsAt0
  frame_open
  frame_out
  simp only [read_unread_whole]
  rw [← mk_args m c]
  simp only [sc2, sc3, sc4, sc5, scp, scq]
  exact congrFun (dh_eq (args m c).sc _ _ _ _ _ _ _) j

/-- The returned gradient of `W₁`. -/
theorem R12_eq (y : S1152x4608.Idx) : (dats m 0 c).arrAt 12 cfg0.N y = (args m c).dw1 (y 0) (y 1) := by
  revert y
  refine congrFun (?_ : _ = fun y : S1152x4608.Idx => (args m c).dw1 (y 0) (y 1))
  refine (dats m 0 c).arrAt_eq_of_after_last 12 t0_0 (by decide +kernel) _ fun j => ?_
  blk_simp
  rw [after0_12]
  unfold outsAt0
  frame_open
  frame_out
  simp only [read_unread_whole]
  rw [← mk_args m c]
  simp only [sc2, sc3, sc4, sc5, scp, scq]
  exact congrFun (dw1_eq (args m c).sc _ _ _ _ _ _ _) j

/-- The returned gradient of `W₂`. -/
theorem R13_eq (y : S4608x1152.Idx) : (dats m 0 c).arrAt 13 cfg0.N y = (args m c).dw2 (y 0) (y 1) := by
  revert y
  refine congrFun (?_ : _ = fun y : S4608x1152.Idx => (args m c).dw2 (y 0) (y 1))
  refine (dats m 0 c).arrAt_eq_of_after_last 13 t0_0 (by decide +kernel) _ fun j => ?_
  blk_simp
  rw [after0_13]
  unfold outsAt0
  frame_open
  frame_out
  simp only [read_unread_whole]
  rw [← mk_args m c]
  simp only [sc2, sc3, sc4, sc5, scp, scq]
  exact congrFun (dw2_eq (args m c).sc _ _ _ _ _ _ _) j

/-- The maxima in the buffer: each part holds its own. -/
theorem R14_at (a : Fin 2) (r : Fin 8) (l : Fin 128) :
    (outsAt0 m c t0_0).2.2.2.2.2.2 (ix3 a r l) = amax2 (fun x => (args m c).amArr a (x 0) (x 1)) r l := by
  unfold outsAt0
  frame_open
  frame_out
  simp only [read_unread_whole]
  refine (two_parts _ _ _ _ _ a r l).trans ?_
  rw [← mk_args m c]
  simp only [sc2, sc4, scp, scq]
  rw [am3_eq, am4_eq, g_eq (args m c).sc _ (args m c).q _ (iblk m c 4 t0_0) _ _ (iblk m c 7 t0_0), du_eq]
  fin_cases a <;> rfl

/-- The returned maxima: part `a`'s entry `(r, l)` is the greatest absolute value, in the activation (`a = 0`) or the
    cotangent, over the rows that are `r` modulo 8 and the columns that are `l` modulo 128. -/
theorem R14_isAmax (a : Fin 2) (r : Fin 8) (l : Fin 128) :
    IsAmax ((args m c).amArr a) r l ((dats m 0 c).arrAt 14 cfg0.N (ix3 a r l)) := by
  have e : (dats m 0 c).arrAt 14 cfg0.N = (outsAt0 m c t0_0).2.2.2.2.2.2 := by
    refine (dats m 0 c).arrAt_eq_of_after_last 14 t0_0 (by decide +kernel) _ fun j => ?_
    blk_simp
    rw [after0_14]
  rw [e, R14_at]
  exact amax2_isAmax (fun x => (args m c).amArr a (x 0) (x 1)) r l

end Cert.ReferenceIdeal.Val
-- ==== Proof.Equation.lean ====
/-
  The two programs return the same arrays of arguments that agree: each result was shown to be one function of the
  argument entries on either side, and the maxima are equal because they have the same upper bounds.
-/
module

public import proofs.«01_k».proof.Proof.KernelValue
public import proofs.«01_k».proof.Proof.RefValue

@[expose] public section

set_option maxRecDepth 16384

noncomputable section

namespace Cert.Mlp

open Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The programs' arguments agree on device `c`. -/
abbrev Agree (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)
  ∧ m' ((c.tc : Thread ReferenceIdeal.nD ReferenceIdeal.τ).loc ReferenceIdeal.main_arg6) = m ((c.tc : Thread KernelIdeal.nD KernelIdeal.τ).loc KernelIdeal.main_arg6)
  ∧ m' ((c.tc : Thread ReferenceIdeal.nD ReferenceIdeal.τ).loc ReferenceIdeal.main_arg7) = m ((c.tc : Thread KernelIdeal.nD KernelIdeal.τ).loc KernelIdeal.main_arg7)

variable {m m'} {c : Dev KernelIdeal.nD} (e : Agree m m' c)
include e

/-- Then their entries, as the specification's arguments, are equal. -/
theorem args_eq : ReferenceIdeal.Val.args m' c = KernelIdeal.Val.args m c := by
  obtain ⟨e0, e1, e2, e3, e4, e5, e6, e7⟩ := e
  unfold ReferenceIdeal.Val.args KernelIdeal.Val.args ReferenceIdeal.Val.mk
  rw [e0, e1, e2, e3, e4, e5, e6, e7]

theorem eq8 : (ReferenceIdeal.Gen.dats m' 0 c).arrAt 8 ReferenceIdeal.cfg0.N = KernelIdeal.Value.G8 m c :=
  funext fun y => (ReferenceIdeal.Val.R8_eq m' c y).trans (by rw [args_eq e]; exact (KernelIdeal.Val.G8_eq m c y).symm)

theorem eq9 : (ReferenceIdeal.Gen.dats m' 0 c).arrAt 9 ReferenceIdeal.cfg0.N = KernelIdeal.Value.G9 m c :=
  funext fun y => (ReferenceIdeal.Val.R9_eq m' c y).trans (by rw [args_eq e]; exact (KernelIdeal.Val.G9_eq m c y).symm)

theorem eq10 : (ReferenceIdeal.Gen.dats m' 0 c).arrAt 10 ReferenceIdeal.cfg0.N = KernelIdeal.Value.G10 m c :=
  funext fun y => (ReferenceIdeal.Val.R10_eq m' c y).trans (by rw [args_eq e]; exact (KernelIdeal.Val.G10_eq m c y).symm)

theorem eq11 : (ReferenceIdeal.Gen.dats m' 0 c).arrAt 11 ReferenceIdeal.cfg0.N = KernelIdeal.Value.G11 m c :=
  funext fun y => (ReferenceIdeal.Val.R11_eq m' c y).trans (by rw [args_eq e]; exact (KernelIdeal.Val.G11_eq m c y).symm)

theorem eq12 : (ReferenceIdeal.Gen.dats m' 0 c).arrAt 12 ReferenceIdeal.cfg0.N = KernelIdeal.Value.G12 m c :=
  funext fun y => (ReferenceIdeal.Val.R12_eq m' c y).trans (by rw [args_eq e]; exact (KernelIdeal.Val.G12_eq m c y).symm)

theorem eq13 : (ReferenceIdeal.Gen.dats m' 0 c).arrAt 13 ReferenceIdeal.cfg0.N = KernelIdeal.Value.G13 m c :=
  funext fun y => (ReferenceIdeal.Val.R13_eq m' c y).trans (by rw [args_eq e]; exact (KernelIdeal.Val.G13_eq m c y).symm)

theorem eq14 : (ReferenceIdeal.Gen.dats m' 0 c).arrAt 14 ReferenceIdeal.cfg0.N = KernelIdeal.Value.G14 m c := by
  funext y
  rw [eq_ix3 y]
  have h := ReferenceIdeal.Val.R14_isAmax m' c (y 0) (y 1) (y 2)
  rw [args_eq e] at h
  exact h.unique (KernelIdeal.Val.G14_isAmax m c (y 0) (y 1) (y 2))

end Cert.Mlp
-- ==== Proof.Wgrad.Run.lean ====
/-
  The body of the weight gradients' kernel, at one grid point, run on any buffers. At the first point it stores the
  transposed codes of h1 into its scratch and the whole of the product of o and dao; at every point it stores one
  block of 384 columns of the product of h1 and dqkv, off the scratch. Each run says what every buffer holds at its end.
-/
module

public import proofs.«01_k».proof.Proof.Gen.Wgrad.Launch
public import proofs.«01_k».proof.Proof.Gen.Wgrad.Skeleton
public import proofs.«01_k».proof.Proof.Gen.Wgrad.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit
public import Idealize.ShloMosaic.Lib.VecWindow
public import Idealize.ShloMosaic.Lib.WholeRead
public import Idealize.ShloMosaic.Lib.Pipeline.ValueKit

@[expose] public section

set_option maxRecDepth 16384

noncomputable section

namespace Cert.Wgrad.Run

open Cert.Wgrad Cert.Wgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition of the body's one branch. -/
abbrev first (i : grid0.Coords) : Prop := k0_cond1 i = 1#1

/-- It holds at the first grid point only. -/
theorem first_iff (t : Fin cfg0.N) : first (grid0.coords t) ↔ t.val = 0 := by
  have ht : t.val < 9 := Nat.lt_of_lt_of_eq t.isLt N_0
  have e0 : (grid0.coords t 0).val = t.val / 1 % 9 := Pipeline.Grid.coords_val t 0 (by decide) rfl
  simp only [first, k0_cond1, e0]
  word_cmp

/-- A scalar read of the scales. -/
theorem ld_scale (x : Vec F S8 .f32) (o : ℕ) (ho : o < 8) (inb : ∀ a, (![o] : Fin 1 → ℕ) a + (![1] : Fin 1 → ℕ) a ≤ S8.size a)
    (z : (Rect.unit (s := S8) ![o] ![1] inb).shape.Idx) :
    View.ld x (Rect.unit (s := S8) ![o] ![1] inb) z = x (ix1 ⟨o, ho⟩) := by
  refine congrArg x (funext fun a => ?_)
  have hz : (z 0).val < 1 := (z 0).isLt
  fin_cases a
  refine Fin.ext ?_
  show o + 1 * (z 0).val = o
  omega

/-- What the first result's block holds, from the scratch, the block of dqkv and the scales. -/
abbrev blockOut (x0 : Vec F S8 .f32) (xs : Vec F S1152x1024 .fp8e4m3) (x3 : Vec F S1024x384 .fp8e5m2) : Vec F S1152x384 .f32 :=
  k0_pay3 xs x3 (x0 (ix1 0)) (x0 (ix1 7))

/-- What the second result holds, from o, dao and the scales. -/
abbrev wholeOut (x0 : Vec F S8 .f32) (x2 : Vec F S1024x1152 .fp8e4m3) (x4 : Vec F S1024x1152 .fp8e5m2) : Vec F S1152x1152 .f32 :=
  k0_pay2 x2 x4 (x0 (ix1 1)) (x0 (ix1 6))

variable (c : Dev nD) (i : grid0.Coords) (arg1 : Memref sig .tc .smem S8 .f32) (harg1 : arg1.IsWhole) (arg2 : Memref sig .tc .vmem S1024x1152 .fp8e4m3) (harg2 : arg2.IsWhole)
    (arg3 : Memref sig .tc .vmem S1024x1152 .fp8e4m3) (harg3 : arg3.IsWhole) (arg4 : Memref sig .tc .vmem S1024x384 .fp8e5m2) (harg4 : arg4.IsWhole)
    (arg5 : Memref sig .tc .vmem S1024x1152 .fp8e5m2) (harg5 : arg5.IsWhole) (arg6 : Memref sig .tc .vmem S1152x384 .f32) (harg6 : arg6.IsWhole)
    (arg7 : Memref sig .tc .vmem S1152x1152 .f32) (harg7 : arg7.IsWhole) (arg8 : Memref sig .tc .vmem S1152x1024 .fp8e4m3) (harg8 : arg8.IsWhole)
    (x0 : Vec F S8 .f32) (x1 x2 : Vec F S1024x1152 .fp8e4m3) (x3 : Vec F S1024x384 .fp8e5m2) (x4 : Vec F S1024x1152 .fp8e5m2)

set_option maxHeartbeats 1000000 in
/-- The first point: all three buffers are stored into. -/
theorem run_first (h : first i) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4 ∗ owns (c : Thread nD τ) arg6 fullShare (blockOut x0 (k0_pay1 x1) x3) ∗ owns (c : Thread nD τ) arg7 fullShare (wholeOut x0 x2 x4) ∗ owns (c : Thread nD τ) arg8 fullShare (k0_pay1 x1)) -∗ K ⟨⟩))
      ⊢ wp frame (wpE (defs₀ (F := F)) Variants.none c none) E (cc0_wgrad i arg1 harg1 arg2 harg2 arg3 harg3 arg4 harg4 arg5 harg5 arg6 harg6 arg7 harg7 arg8 harg8) K := by
  simp only [cc0_wgrad_eq_skeleton]; unfold cc0_wgrad_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact h)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    frame_open
    rw [View.read_writes_full]
    frame_out
    rw [ld_scale x0 0 (by decide), ld_scale x0 7 (by decide)]
    rfl
  isplitl [H6]
  · iexists _; isplitr
    swap; · iexact H6
    ipureintro
    frame_open
    rw [View.read_writes_full]
    frame_out
    rw [ld_scale x0 1 (by decide), ld_scale x0 6 (by decide)]
    rfl
  iexists _; isplitr
  swap; · iexact HS0
  ipureintro
  frame_open
  rw [View.read_writes_full]
  frame_out

set_option maxHeartbeats 1000000 in
/-- Every other point: only the first result's buffer is stored into. -/
theorem run_rest (h : ¬first i) (x6 : Vec F S1152x1152 .f32) (xs : Vec F S1152x1024 .fp8e4m3) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4 ∗ (∃ d, owns (c : Thread nD τ) arg6 fullShare d) ∗ owns (c : Thread nD τ) arg7 fullShare x6 ∗ owns (c : Thread nD τ) arg8 fullShare xs
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4 ∗ owns (c : Thread nD τ) arg6 fullShare (blockOut x0 xs x3) ∗ owns (c : Thread nD τ) arg7 fullShare x6 ∗ owns (c : Thread nD τ) arg8 fullShare xs) -∗ K ⟨⟩))
      ⊢ wp frame (wpE (defs₀ (F := F)) Variants.none c none) E (cc0_wgrad i arg1 harg1 arg2 harg2 arg3 harg3 arg4 harg4 arg5 harg5 arg6 harg6 arg7 harg7 arg8 harg8) K := by
  simp only [cc0_wgrad_eq_skeleton]; unfold cc0_wgrad_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hfs0
  sl_exec (disch := first | sl_exact h)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    frame_open
    rw [View.read_writes_full]
    frame_out
    rw [ld_scale x0 0 (by decide), ld_scale x0 7 (by decide)]
    rfl
  isplitl [H6]
  · iexists _; isplitr; · ipureintro; exact harg7.read_unread _
    iexact H6
  iexists _; isplitr; · ipureintro; exact harg8.read_unread _
  iexact HS0

end Cert.Wgrad.Run

end
-- ==== Proof.Wgrad.Frame.lean ====
/-
  The weight gradients' kernel over its nine grid points, for any float values. Every buffer's contents after every
  point have a closed form: the inputs hold their blocks, the scratch holds the transposed codes of h1 from the first
  point on, the first result's buffer holds its block (`blockOut`), the second's the whole product (`wholeOut`). The
  second result is stored at the first point and written back after the last; between, its buffer is left alone.
  `run_all` is the launch; `frame` the claim about the arguments and the semaphores.
-/
module

public import proofs.«01_k».proof.Proof.Wgrad.Run

@[expose] public section

set_option maxRecDepth 16384

noncomputable section

namespace Cert.Wgrad.Run

open Cert.Wgrad Cert.Wgrad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the region finds them: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first point. -/
abbrev tz : Fin cfg0.N := ⟨0, lt_of_lt_of_eq (by decide : 0 < 9) N_0.symm⟩

/-- The scratch from the first point on. -/
abbrev scr (c : Dev nD) : Vec F S1152x1024 .fp8e4m3 := k0_pay1 (iblk m c 1 tz)
/-- The first result's block at a point. -/
abbrev out5 (c : Dev nD) (t : Fin cfg0.N) : Vec F S1152x384 .f32 := blockOut (iblk m c 0 t) (scr m c) (iblk m c 3 t)
/-- The second result. -/
abbrev out6 (c : Dev nD) : Vec F S1152x1152 .f32 := wholeOut (iblk m c 0 tz) (iblk m c 2 tz) (iblk m c 4 tz)

/-- The scratch as a memref. -/
abbrev scM : Memref sig .tc .vmem S1152x1024 .fp8e4m3 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The scratch and the generator register before position `n`. -/
def PhiS (c : Dev nD) : ℕ → sProp 𝕄
  | 0 => Pipeline.ΦA spec0 c
  | _ + 1 => iprop(owns (c : Thread nD τ) scM fullShare (scr m c) ∗ (∃ r, prngReg c r))

/-- The contents after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c
  Φ t := PhiS m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out5 m c t := by dsimp only [dats]
theorem after6 (c : Dev nD) (t : Fin cfg0.N) : (dats m 0 c).after 6 t = out6 m c := by dsimp only [dats]

/-! An input's buffer holds its block at every point. -/

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! The second result's buffer: idle after the first point, and from then on not fresh. -/

theorem live6 : ∀ t : Fin cfg0.N, first (grid0.coords t) → cfg0.idle 6 (grid0.coords t) = false := by decide +kernel
theorem idle6 : ∀ t : Fin cfg0.N, ¬first (grid0.coords t) → cfg0.idle 6 (grid0.coords t) = true := by decide +kernel

def freshTab : ℕ → Bool
  | 0 => true
  | n + 1 => (0x100 : ℕ).testBit n
theorem freshTab_step : ∀ t : Fin cfg0.N,
    freshTab (t.val + 1) = ((cfg0.win 6).flush t || (cfg0.idle 6 (cfg0.grid.coords t) && freshTab t.val)) := by decide +kernel
theorem fresh_eq (t : Fin cfg0.N) : cfg0.fresh 6 t.val = freshTab t.val :=
  Pipeline.Cfg.fresh_tab cfg0 6 freshTab rfl freshTab_step t.val (Nat.le_of_lt t.isLt)
theorem notFresh : ∀ t : Fin cfg0.N, ¬first (grid0.coords t) → cfg0.fresh 6 t.val = false := by
  intro t; rw [fresh_eq t]; revert t; decide +kernel

theorem before6 (c : Dev nD) (t : Fin cfg0.N) (h : ¬first (grid0.coords t)) (d) : (dats m 0 c).before 6 t d = out6 m c := by
  rw [Dat.before_out_traj _ 6 rfl (fun _ _ => rfl) (fun t _ _ _ => by rw [after6, after6]) t.val t rfl d,
    if_neg (by rw [notFresh t h]; exact Bool.false_ne_true)]
  dsimp only [dats]

abbrev ms0 (t : Fin cfg0.N) : Memref sig .tc .smem S8 .f32 := win0_0.stage (cfg0.slots t 0)
abbrev ms1 (t : Fin cfg0.N) : Memref sig .tc .vmem S1024x1152 .fp8e4m3 := win0_1.stage (cfg0.slots t 1)
abbrev ms2 (t : Fin cfg0.N) : Memref sig .tc .vmem S1024x1152 .fp8e4m3 := win0_2.stage (cfg0.slots t 2)
abbrev ms3 (t : Fin cfg0.N) : Memref sig .tc .vmem S1024x384 .fp8e5m2 := win0_3.stage (cfg0.slots t 3)
abbrev ms4 (t : Fin cfg0.N) : Memref sig .tc .vmem S1024x1152 .fp8e5m2 := win0_4.stage (cfg0.slots t 4)
abbrev ms5 (t : Fin cfg0.N) : Memref sig .tc .vmem S1152x384 .f32 := win0_5.stage (cfg0.slots t 5)
abbrev ms6 (t : Fin cfg0.N) : Memref sig .tc .vmem S1152x1152 .f32 := win0_6.stage (cfg0.slots t 6)

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- A window that is never idle hands back its contents after the point. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The second result's buffer, left alone, holds what the window hands back. -/
theorem leaves6 (c : Dev nD) (t : Fin cfg0.N) (h : ¬first (grid0.coords t)) :
    owns (c : Thread nD τ) (ms6 t) fullShare (out6 m c) ⊢ ((dats m 0 c).leavesExact 6 t : sProp 𝕄) := by
  cases hf : (cfg0.win 6).flush t with
  | false =>
    rw [Dat.leavesExact_idle _ 6 t (idle6 t h) hf]
    simp only [before6 m c t h]
    iintro H
    iexists (out6 m c)
    iexact H
  | true =>
    unfold Dat.leavesExact
    rw [idle6 t h, hf]
    simp only [after6]
    exact Idealize.SL.BI.Entails.refl _

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = iprop(owns (c : Thread nD τ) scM fullShare (scr m c) ∗ (∃ r, prngReg c r)) from rfl]
  rw [show (dats m 0 c).Φ t.castSucc = PhiS m c t.val from rfl]
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  by_cases h : first (grid0.coords t)
  · have hz : t.val = 0 := (first_iff t).mp h
    obtain rfl : t = tz := Fin.ext hz
    rw [leaves_live m c 6 tz (live6 tz h), after6]
    rw [show PhiS m c (tz : Fin cfg0.N).val = Pipeline.ΦA spec0 c from rfl, PhiA_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords tz) _ _ _ _ _ _ _ _ _ _ _ _ _ _ scM (Memref.isWhole_whole _) (iblk m c 0 tz) (iblk m c 1 tz) (iblk m c 2 tz) (iblk m c 3 tz) (iblk m c 4 tz) h Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    iintro ⟨H0, H1, H2, H3, H4, H5, H6, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ : ∃ n, t.val = n + 1 := Nat.exists_eq_succ_of_ne_zero fun hz => h ((first_iff t).mpr hz)
    rw [show PhiS m c t.val = iprop(owns (c : Thread nD τ) scM fullShare (scr m c) ∗ (∃ r, prngReg c r)) from by rw [hn]; rfl]
    simp only [before6 m c t h]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (run_rest c (grid0.coords t) _ _ _ _ _ _ _ _ _ _ _ _ _ _ scM (Memref.isWhole_whole _) (iblk m c 0 t) (iblk m c 1 t) (iblk m c 2 t) (iblk m c 3 t) (iblk m c 4 t) h (out6 m c) (scr m c) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    iintro ⟨H0, H1, H2, H3, H4, H5, H6, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves6 m c t h)
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = iprop(owns (c : Thread nD τ) scM fullShare (scr m c) ∗ (∃ r, prngReg c r)) from by
    show PhiS m c cfg0.N = _
    rw [show cfg0.N = 8 + 1 from N_0]; rfl, PhiA_eq]
  iintro ⟨HS0, Hg⟩
  isplitl [HS0]
  · iexists _; iexact HS0
  iexact Hg

set_option backward.isDefEq.respectTransparency.types false in
/-- The launch: every array ends at what the contents after the points say, every semaphore at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4))⟩, h.2⟩) (run_all m ρ)

/-- The run with the two results named: each is its array as the points left it. -/
theorem run_values : θ_run defs (onTc (τ := τ) (main (F := F))) ⟨m, fun _ => 0, ρ⟩ (fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5, (h.1 c).1 6, ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4))⟩) (run_all m ρ)

end Cert.Wgrad.Run

end
-- ==== Proof.Wgrad.Spec.lean ====
/-
  The two weight gradients, over the extended reals and with no program in sight: each entry is a product over the
  tokens, scaled by the product of two scales.
-/
module

public import proofs.«01_k».proof.Proof.Spec

@[expose] public section

noncomputable section

namespace Cert.Wg

open Idealize.ShloMosaic

/-- The argument entries: the eight scales of a layer, and the codes of the input `h` of the qkv product, of the
    attention's output `o`, and of the cotangents `dq` of the qkv product and `da` of the output product. -/
structure Args where
  sc : Fin 8 → EReal
  h : Fin 1024 → Fin 1152 → EReal
  o : Fin 1024 → Fin 1152 → EReal
  dq : Fin 1024 → Fin 3456 → EReal
  da : Fin 1024 → Fin 1152 → EReal

/-- The gradient of the qkv weight: `hᵀ dq`, at the product of their two scales. -/
def Args.dwqkv (a : Args) (i : Fin 1152) (j : Fin 3456) : EReal :=
  Cert.Mlp.prod (fun k => a.h k i) (fun k => a.dq k j) (a.sc 0 * a.sc 7)

/-- The gradient of the output weight: `oᵀ da`, at the product of their two scales. -/
def Args.dwo (a : Args) (i : Fin 1152) (j : Fin 1152) : EReal :=
  Cert.Mlp.prod (fun k => a.o k i) (fun k => a.da k j) (a.sc 1 * a.sc 6)

end Cert.Wg

end
-- ==== Proof.Wgrad.KernelValue.lean ====
/-
  What the pipelined kernel of the weight gradients returns, as functions of its arguments: the gradient of the qkv
  weight block by block, 384 columns at a point, and the gradient of the output weight whole.
-/
module

public import proofs.«01_k».proof.Proof.Wgrad.Frame
public import proofs.«01_k».proof.Proof.Wgrad.Spec

@[expose] public section

set_option maxRecDepth 16384

noncomputable section

namespace Cert.Wgrad.Run

open Cert.Wgrad Cert.Wgrad.Gen Idealize.ShloMosaic Idealize.ShloMosaic.TcCoe Idealize.SL.Sem
open Cert.Wg
open Cert.Mlp (prod)

/-! ## The two stored values, entry by entry -/

theorem blockOut_eq (x0 : Vec Ideal S8 .f32) (x1 : Vec Ideal S1024x1152 .fp8e4m3) (x3 : Vec Ideal S1024x384 .fp8e5m2) :
    blockOut x0 (k0_pay1 x1) x3 = fun y : S1152x384.Idx =>
      prod (fun k => x1 (ix2 k (y 0))) (fun k => x3 (ix2 k (y 1))) (x0 (ix1 0) * x0 (ix1 7)) := by
  funext y; idx_vars y; pointwise [k0_pay1, k0_pay3]; rfl

theorem wholeOut_eq (x0 : Vec Ideal S8 .f32) (x2 : Vec Ideal S1024x1152 .fp8e4m3) (x4 : Vec Ideal S1024x1152 .fp8e5m2) :
    wholeOut x0 x2 x4 = fun y : S1152x1152.Idx =>
      prod (fun k => x2 (ix2 k (y 0))) (fun k => x4 (ix2 k (y 1))) (x0 (ix1 1) * x0 (ix1 6)) := by
  funext y; idx_vars y; pointwise [k0_pay2]; rfl

variable (m : (ℓ : Loc nD τ sig) → Buf (Elt Ideal) ℓ) (c : Dev nD) (t : Fin cfg0.N)

/-- Device `c`'s argument entries. -/
def args : Args where
  sc k := m ((c : Thread nD τ).loc main_arg0) (ix1 k)
  h i k := m ((c : Thread nD τ).loc main_arg1) (ix2 i k)
  o i k := m ((c : Thread nD τ).loc main_arg2) (ix2 i k)
  dq i k := m ((c : Thread nD τ).loc main_arg3) (ix2 i k)
  da i k := m ((c : Thread nD τ).loc main_arg4) (ix2 i k)

/-- Where each window's block starts, in blocks. -/
theorem idx : ∀ t : Fin cfg0.N, win0_0.index t = ![0] ∧ win0_1.index t = ![0, 0] ∧ win0_2.index t = ![0, 0] ∧
    win0_3.index t = ![0, t.val] ∧ win0_4.index t = ![0, 0] ∧ win0_5.index t = ![0, t.val] ∧ win0_6.index t = ![0, 0] := by
  decide +kernel

/-- Column `j` of point `t`'s block. -/
abbrev col (j : Fin 384) : Fin 3456 := ⟨384 * t.val + j.val, by
  have ht : t.val < 9 := Nat.lt_of_lt_of_eq t.isLt N_0
  omega⟩

/-! ## Each input's block is its argument, or its columns -/

theorem iblk0 (k : Fin 8) : iblk m c 0 t (ix1 k) = (args m c).sc k := by
  obtain ⟨e0, e1, e2, e3, e4, e5, e6⟩ := idx t
  blk_point [iblk, V, args, e0]

theorem iblk1 (i : Fin 1024) (k : Fin 1152) : iblk m c 1 t (ix2 i k) = (args m c).h i k := by
  obtain ⟨e0, e1, e2, e3, e4, e5, e6⟩ := idx t
  blk_point [iblk, V, args, e1]

theorem iblk2 (i : Fin 1024) (k : Fin 1152) : iblk m c 2 t (ix2 i k) = (args m c).o i k := by
  obtain ⟨e0, e1, e2, e3, e4, e5, e6⟩ := idx t
  blk_point [iblk, V, args, e2]

theorem iblk3 (i : Fin 1024) (j : Fin 384) : iblk m c 3 t (ix2 i j) = (args m c).dq i (col t j) := by
  obtain ⟨e0, e1, e2, e3, e4, e5, e6⟩ := idx t
  blk_point [iblk, V, args, col, e3]

theorem iblk4 (i : Fin 1024) (k : Fin 1152) : iblk m c 4 t (ix2 i k) = (args m c).da i k := by
  obtain ⟨e0, e1, e2, e3, e4, e5, e6⟩ := idx t
  blk_point [iblk, V, args, e4]

/-! ## The results -/

/-- A point leaves its columns of the gradient of the qkv weight. -/
theorem out5_eq (y : S1152x384.Idx) : out5 m c t y = (args m c).dwqkv (y 0) (col t (y 1)) := by
  refine (congrFun (blockOut_eq _ _ _) y).trans ?_
  exact congr (congr (congrArg prod (funext fun k => iblk1 m c tz k (y 0))) (funext fun k => iblk3 m c t k (y 1)))
    (congrArg₂ (· * ·) (iblk0 m c t 0) (iblk0 m c t 7))

/-- The gradient of the output weight. -/
theorem out6_eq (y : S1152x1152.Idx) : out6 m c y = (args m c).dwo (y 0) (y 1) := by
  refine (congrFun (wholeOut_eq _ _ _) y).trans ?_
  exact congr (congr (congrArg prod (funext fun k => iblk2 m c tz k (y 0))) (funext fun k => iblk4 m c tz k (y 1)))
    (congrArg₂ (· * ·) (iblk0 m c tz 1) (iblk0 m c tz 6))

/-- The first array returned is the gradient of the qkv weight. -/
theorem K5_eq : (dats m 0 c).arrAt 5 cfg0.N = fun y : S1152x3456.Idx => (args m c).dwqkv (y 0) (y 1) := by
  refine (dats m 0 c).arrAt_eq_of_covers 5 _ (by decide +kernel) fun t hf y => ?_
  obtain ⟨e0, e1, e2, e3, e4, e5, e6⟩ := idx t
  blk_simp
  rw [after5, out5_eq]
  refine congrArg₂ (args m c).dwqkv (Fin.ext ?_) (Fin.ext ?_)
  · blk_simp [e5]
  · blk_simp [e5]
    exact congrArg (· + _) (Nat.mul_comm _ _)

/-- The second array returned is the gradient of the output weight. -/
theorem K6_eq : (dats m 0 c).arrAt 6 cfg0.N = fun y : S1152x1152.Idx => (args m c).dwo (y 0) (y 1) := by
  refine (dats m 0 c).arrAt_eq_of_covers 6 _ (by decide +kernel) fun t hf y => ?_
  obtain ⟨e0, e1, e2, e3, e4, e5, e6⟩ := idx t
  blk_simp
  rw [after6, out6_eq]
  refine congrArg₂ (args m c).dwo (Fin.ext ?_) (Fin.ext ?_)
  · blk_simp [e6]
  · blk_simp [e6]

end Cert.Wgrad.Run

end
-- ==== Proof.Wgrad.RefValue.lean ====
/-
  What the reference of the weight gradients returns, as functions of its arguments: its one grid point writes both
  results whole.
-/
module

public import proofs.«01_k».proof.Proof.Gen.WgradReferenceIdeal.Value
public import proofs.«01_k».proof.Proof.Wgrad.Spec
public import Idealize.ShloMosaic.Lib.Pipeline.ValueKit
public import Idealize.ShloMosaic.Lib.Pipeline.ReadBack

@[expose] public section

set_option maxRecDepth 16384

noncomputable section

namespace Cert.WgradReferenceIdeal.Val

open Cert.WgradReferenceIdeal Cert.WgradReferenceIdeal.Gen Cert.WgradReferenceIdeal.Value
open Idealize.ShloMosaic Idealize.ShloMosaic.TcCoe Idealize.SL.Sem
open Cert.Wg
open Cert.Mlp (prod)

/-! ## The two stored values, entry by entry -/

theorem pay1_eq (s s' : EReal) (x1 : Vec Ideal S1024x1152 .fp8e4m3) (x3 : Vec Ideal S1024x3456 .fp8e5m2) :
    k0_pay1 (F := Ideal) s s' x1 x3 = fun y : S1152x3456.Idx =>
      prod (fun k => x1 (ix2 k (y 0))) (fun k => x3 (ix2 k (y 1))) (s * s') := by
  funext y; idx_vars y; pointwise [k0_pay1]; rfl

theorem pay2_eq (s s' : EReal) (x2 : Vec Ideal S1024x1152 .fp8e4m3) (x4 : Vec Ideal S1024x1152 .fp8e5m2) :
    k0_pay2 (F := Ideal) s s' x2 x4 = fun y : S1152x1152.Idx =>
      prod (fun k => x2 (ix2 k (y 0))) (fun k => x4 (ix2 k (y 1))) (s * s') := by
  funext y; idx_vars y; pointwise [k0_pay2]; rfl

variable (m : (ℓ : Loc nD τ sig) → Buf (Elt Ideal) ℓ) (c : Dev nD)

/-- Device `c`'s argument entries. -/
def args : Args where
  sc k := m ((c : Thread nD τ).loc main_arg0) (ix1 k)
  h i k := m ((c : Thread nD τ).loc main_arg1) (ix2 i k)
  o i k := m ((c : Thread nD τ).loc main_arg2) (ix2 i k)
  dq i k := m ((c : Thread nD τ).loc main_arg3) (ix2 i k)
  da i k := m ((c : Thread nD τ).loc main_arg4) (ix2 i k)

/-- Where each input window's block starts, in blocks. -/
theorem idx : win0_0.index t0_0 = ![0] ∧ win0_1.index t0_0 = ![0, 0] ∧ win0_2.index t0_0 = ![0, 0] ∧
    win0_3.index t0_0 = ![0, 0] ∧ win0_4.index t0_0 = ![0, 0] := by
  decide +kernel

/-! ## Each input's block is its argument -/

theorem iblk0 (k : Fin 8) : iblk m c 0 t0_0 (ix1 k) = (args m c).sc k := by
  obtain ⟨e0, e1, e2, e3, e4⟩ := idx
  blk_point [iblk, V, args, e0]

theorem iblk1 (i : Fin 1024) (k : Fin 1152) : iblk m c 1 t0_0 (ix2 i k) = (args m c).h i k := by
  obtain ⟨e0, e1, e2, e3, e4⟩ := idx
  blk_point [iblk, V, args, e1]

theorem iblk2 (i : Fin 1024) (k : Fin 1152) : iblk m c 2 t0_0 (ix2 i k) = (args m c).o i k := by
  obtain ⟨e0, e1, e2, e3, e4⟩ := idx
  blk_point [iblk, V, args, e2]

theorem iblk3 (i : Fin 1024) (k : Fin 3456) : iblk m c 3 t0_0 (ix2 i k) = (args m c).dq i k := by
  obtain ⟨e0, e1, e2, e3, e4⟩ := idx
  blk_point [iblk, V, args, e3]

theorem iblk4 (i : Fin 1024) (k : Fin 1152) : iblk m c 4 t0_0 (ix2 i k) = (args m c).da i k := by
  obtain ⟨e0, e1, e2, e3, e4⟩ := idx
  blk_point [iblk, V, args, e4]

/-- A scalar load of entry `n` of the eight scales. -/
theorem ld_S8 (n : ℕ) (inb : ∀ a, (![n] : Fin 1 → ℕ) a + (![1] : Fin 1 → ℕ) a ≤ S8.size a) (j) :
    View.ld (iblk m c 0 t0_0) (Rect.unit (s := S8) ![n] ![1] inb) j = (args m c).sc ⟨n, Nat.lt_of_succ_le (inb 0)⟩ := by
  refine (congrArg (iblk m c 0 t0_0) (funext fun a => ?_)).trans (iblk0 m c _)
  have h : (j 0).val < 1 := (j 0).isLt
  fin_cases a
  refine Fin.ext ?_
  show n + 1 * (j 0).val = n
  omega

/-! ## The results -/

/-- The first array returned is the gradient of the qkv weight. -/
theorem R5_eq : (dats m 0 c).arrAt 5 cfg0.N = fun y : S1152x3456.Idx => (args m c).dwqkv (y 0) (y 1) := by
  refine (dats m 0 c).arrAt_eq_of_after_last 5 t0_0 (by decide +kernel) _ fun j => ?_
  blk_simp
  rw [after0_5]
  unfold outsAt0
  frame_open
  frame_out
  simp only [read_unread_whole]
  rw [pay1_eq]
  exact congr (congr (congrArg prod (funext fun k => iblk1 m c k (j 0))) (funext fun k => iblk3 m c k (j 1)))
    (congrArg₂ (· * ·) (ld_S8 m c 0 _ _) (ld_S8 m c 7 _ _))

/-- The second array returned is the gradient of the output weight. -/
theorem R6_eq : (dats m 0 c).arrAt 6 cfg0.N = fun y : S1152x1152.Idx => (args m c).dwo (y 0) (y 1) := by
  refine (dats m 0 c).arrAt_eq_of_after_last 6 t0_0 (by decide +kernel) _ fun j => ?_
  blk_simp
  rw [after0_6]
  unfold outsAt0
  frame_open
  frame_out
  simp only [read_unread_whole]
  rw [pay2_eq]
  exact congr (congr (congrArg prod (funext fun k => iblk2 m c k (j 0))) (funext fun k => iblk4 m c k (j 1)))
    (congrArg₂ (· * ·) (ld_S8 m c 1 _ _) (ld_S8 m c 6 _ _))

end Cert.WgradReferenceIdeal.Val

end
-- ==== Proof.Wgrad.Equation.lean ====
/-
  The weight gradients' kernel and its reference return the same arrays of arguments that agree. Over the extended reals
  the kernel and its ideal form are one program, under two names; `run_ideal` states the kernel's run for the second.
-/
module

public import proofs.«01_k».proof.Defs
public import proofs.«01_k».proof.Proof.Gen.WgradIdeal
public import proofs.«01_k».proof.Proof.Wgrad.KernelValue
public import proofs.«01_k».proof.Proof.Wgrad.RefValue

@[expose] public section

set_option maxRecDepth 16384

noncomputable section

namespace Cert.Wg

open Idealize.ShloMosaic Idealize.ShloMosaic.TcCoe Idealize.SL.Sem

/-! ## One program under two names -/

theorem defs₀_eq : Cert.WgradIdeal.defs₀ (F := Ideal) = Cert.Wgrad.defs₀ (F := Ideal) := by
  funext p
  cases p with
  | tc =>
    funext ℓ a
    match ℓ, a with
    | 0, (t, s) => rfl
  | scScalar c => rfl
  | scVector c d => rfl

theorem defs_eq : Cert.WgradIdeal.defs (F := Ideal) = Cert.Wgrad.defs (F := Ideal) :=
  congrArg (Pipeline.defs Cert.Wgrad.pcfgs) defs₀_eq

theorem main_eq : Cert.WgradIdeal.main (F := Ideal) = Cert.Wgrad.main (F := Ideal) := rfl

/-- The ideal kernel's arguments end unchanged, and every semaphore at zero. -/
theorem frame_ideal : Cert.quiescent_WgradIdeal := fun m ρ _ => by
  have h := Cert.Wgrad.Run.frame (F := Ideal) m ρ
  rw [← defs_eq] at h
  exact h

section
open Cert.WgradIdeal
variable (m : (ℓ : Loc nD τ sig) → Buf (Elt Ideal) ℓ) (ρ : Dev nD → PrngReg)

/-- What the ideal kernel returns. -/
def K5 (c : Dev nD) : Buf (Elt Ideal) ((c : Thread nD τ).loc main_v0_0) := (Cert.Wgrad.Run.dats (F := Ideal) m 0 c).arrAt 5 Cert.Wgrad.cfg0.N
def K6 (c : Dev nD) : Buf (Elt Ideal) ((c : Thread nD τ).loc main_v0_1) := (Cert.Wgrad.Run.dats (F := Ideal) m 0 c).arrAt 6 Cert.Wgrad.cfg0.N

theorem run_ideal : θ_run defs (onTc (τ := τ) (main (F := Ideal))) ⟨m, fun _ => 0, ρ⟩ (fun r => ∀ c : Dev nD,
      r.2.mem ((c.tc : Thread nD τ).loc main_v0_0) = K5 m c
      ∧ r.2.mem ((c.tc : Thread nD τ).loc main_v0_1) = K6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h := Cert.Wgrad.Run.run_values (F := Ideal) m ρ
  rw [← defs_eq] at h
  exact h
end

/-! ## The equation -/

variable (m : (ℓ : Loc WgradIdeal.nD WgradIdeal.τ WgradIdeal.sig) → Buf (Elt Ideal) ℓ)
  (m' : (ℓ : Loc WgradReferenceIdeal.nD WgradReferenceIdeal.τ WgradReferenceIdeal.sig) → Buf (Elt Ideal) ℓ)

/-- The programs' arguments agree on device `c`. -/
abbrev Agree (c : Dev WgradIdeal.nD) : Prop :=
  m' ((c.tc : Thread WgradReferenceIdeal.nD WgradReferenceIdeal.τ).loc WgradReferenceIdeal.main_arg0) = m ((c.tc : Thread WgradIdeal.nD WgradIdeal.τ).loc WgradIdeal.main_arg0)
  ∧ m' ((c.tc : Thread WgradReferenceIdeal.nD WgradReferenceIdeal.τ).loc WgradReferenceIdeal.main_arg1) = m ((c.tc : Thread WgradIdeal.nD WgradIdeal.τ).loc WgradIdeal.main_arg1)
  ∧ m' ((c.tc : Thread WgradReferenceIdeal.nD WgradReferenceIdeal.τ).loc WgradReferenceIdeal.main_arg2) = m ((c.tc : Thread WgradIdeal.nD WgradIdeal.τ).loc WgradIdeal.main_arg2)
  ∧ m' ((c.tc : Thread WgradReferenceIdeal.nD WgradReferenceIdeal.τ).loc WgradReferenceIdeal.main_arg3) = m ((c.tc : Thread WgradIdeal.nD WgradIdeal.τ).loc WgradIdeal.main_arg3)
  ∧ m' ((c.tc : Thread WgradReferenceIdeal.nD WgradReferenceIdeal.τ).loc WgradReferenceIdeal.main_arg4) = m ((c.tc : Thread WgradIdeal.nD WgradIdeal.τ).loc WgradIdeal.main_arg4)

variable {m m'} {c : Dev WgradIdeal.nD} (e : Agree m m' c)
include e

/-- Then their entries, as the specification's arguments, are equal. -/
theorem args_eq : WgradReferenceIdeal.Val.args m' c = Wgrad.Run.args m c := by
  obtain ⟨e0, e1, e2, e3, e4⟩ := e
  unfold WgradReferenceIdeal.Val.args
  rw [e0, e1, e2, e3, e4]
  rfl

theorem eq5 : (WgradReferenceIdeal.Gen.dats m' 0 c).arrAt 5 WgradReferenceIdeal.cfg0.N = K5 m c :=
  (WgradReferenceIdeal.Val.R5_eq m' c).trans (by rw [args_eq e]; exact (Wgrad.Run.K5_eq m c).symm)

theorem eq6 : (WgradReferenceIdeal.Gen.dats m' 0 c).arrAt 6 WgradReferenceIdeal.cfg0.N = K6 m c :=
  (WgradReferenceIdeal.Val.R6_eq m' c).trans (by rw [args_eq e]; exact (Wgrad.Run.K6_eq m c).symm)

end Cert.Wg

end
-- ==== Proof.Mod.Run.lean ====
/-
  The body of the modulation's kernel, at one grid point, run on any buffers. At the first point it fills two scratch
  buffers, the bias as nine rows of 768 and silu(c) along the lanes, and stores the eight scales; at every point it
  multiplies one block of 768 columns of the weights by silu(c), eight rows a trip of its loop, and adds the bias.
  Each run says what every buffer holds at its end.
-/
module

public import proofs.«01_k».proof.Proof.Gen.Mod.Launch
public import proofs.«01_k».proof.Proof.Gen.Mod.Skeleton
public import proofs.«01_k».proof.Proof.Gen.Mod.Loops
public import proofs.«01_k».proof.Proof.Gen.Mod.Points
public import proofs.«01_k».proof.Proof.Gen.Mod.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit
public import Idealize.ShloMosaic.Lib.WholeRead

@[expose] public section

set_option maxRecDepth 16384

noncomputable section

namespace Cert.Mod.Run

open Cert.Mod Cert.Mod.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition of the body's one branch. -/
abbrev first (i : grid0.Coords) : Prop := k0_cond1 i = 1#1

/-- It holds at the first grid point only. -/
theorem first_iff (t : Fin cfg0.N) : first (grid0.coords t) ↔ t.val = 0 := by
  have ht : t.val < 9 := Nat.lt_of_lt_of_eq t.isLt N_0
  have e0 : (grid0.coords t 0).val = t.val / 1 % 9 := Pipeline.Grid.coords_val t 0 (by decide) rfl
  simp only [first, k0_cond1, e0]
  word_cmp

/-- The loop carries one sum of eight rows for each of the four rows of c. -/
abbrev Sums (F : FTy → Type) : Type := FVec F S8x768 .f32 × FVec F S8x768 .f32 × FVec F S8x768 .f32 × FVec F S8x768 .f32

/-- One trip: eight more rows of the weights times silu(c) are added. -/
def trip (w : Vec F S1152x768 .f32) (s : Vec F S4x1152x128 .f32) (k : Fin k0_t1_loop.trips) (a : Sums F) : Sums F :=
  (k0_pay5 a.1 (View.ld w (Rect.unit (s := S1152x768) (k0_off1 k) S8x768.size (k0_off1_inb k))) (View.ld s (Rect.unit (s := S4x1152x128) (k0_off2 k) S1x8x128.size (k0_off2_inb k))),
    k0_pay6 a.2.1 (View.ld w (Rect.unit (s := S1152x768) (k0_off1 k) S8x768.size (k0_off1_inb k))) (View.ld s (Rect.unit (s := S4x1152x128) (k0_off3 k) S1x8x128.size (k0_off3_inb k))),
    k0_pay7 a.2.2.1 (View.ld w (Rect.unit (s := S1152x768) (k0_off1 k) S8x768.size (k0_off1_inb k))) (View.ld s (Rect.unit (s := S4x1152x128) (k0_off4 k) S1x8x128.size (k0_off4_inb k))),
    k0_pay8 a.2.2.2 (View.ld w (Rect.unit (s := S1152x768) (k0_off1 k) S8x768.size (k0_off1_inb k))) (View.ld s (Rect.unit (s := S4x1152x128) (k0_off5 k) S1x8x128.size (k0_off5_inb k))))

/-- The sums before trip `k`. -/
def sums (w : Vec F S1152x768 .f32) (s : Vec F S4x1152x128 .f32) : ℕ → Sums F
  | 0 => (k0_pay1, k0_pay2, k0_pay3, k0_pay4)
  | k + 1 => if h : k < k0_t1_loop.trips then trip w s ⟨k, h⟩ (sums w s k) else sums w s k

/-- The sums after the loop. -/
abbrev total (w : Vec F S1152x768 .f32) (s : Vec F S4x1152x128 .f32) : Sums F := sums w s k0_t1_loop.trips

variable (c : Dev nD) (i : grid0.Coords) (arg1 : Memref sig .tc .vmem S4x1152 .f32) (harg1 : arg1.IsWhole) (arg2 : Memref sig .tc .vmem S1152x768 .f32) (harg2 : arg2.IsWhole) (arg3 : Memref sig .tc .vmem S6912 .f32) (harg3 : arg3.IsWhole) (arg4 : Memref sig .tc .vmem S8x20 .f32) (harg4 : arg4.IsWhole) (arg5 : Memref sig .tc .vmem S4x768 .f32) (harg5 : arg5.IsWhole) (arg6 : Memref sig .tc .smem S8 .f32) (harg6 : arg6.IsWhole) (arg7 : Memref sig .tc .smem S1 .f32) (harg7 : arg7.IsWhole) (arg8 : Memref sig .tc .smem S1 .f32) (harg8 : arg8.IsWhole) (arg9 : Memref sig .tc .smem S1 .f32) (harg9 : arg9.IsWhole) (arg10 : Memref sig .tc .smem S1 .f32) (harg10 : arg10.IsWhole) (arg11 : Memref sig .tc .smem S1 .f32) (harg11 : arg11.IsWhole) (arg12 : Memref sig .tc .smem S1 .f32) (harg12 : arg12.IsWhole) (arg13 : Memref sig .tc .smem S1 .f32) (harg13 : arg13.IsWhole) (arg14 : Memref sig .tc .smem S1 .f32) (harg14 : arg14.IsWhole) (arg15 : Memref sig .tc .vmem S4x1152x128 .f32) (harg15 : arg15.IsWhole) (arg16 : Memref sig .tc .vmem S9x1x768 .f32) (harg16 : arg16.IsWhole)

theorem trip_eq (X2 : BufTy.Contents (Elt F) arg2.view.ty) (X15 : BufTy.Contents (Elt F) arg15.view.ty) (k : Fin k0_t1_loop.trips) (a : Sums F) :
    tripR_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X2 X15 k a
      = trip (arg2.view.read (Elt F) X2) (arg15.view.read (Elt F) X15) k a := by
  unfold tripR_k0_t1 trip_k0_t1
  rfl

theorem st_eq (X2 : BufTy.Contents (Elt F) arg2.view.ty) (X15 : BufTy.Contents (Elt F) arg15.view.ty) (k : ℕ) :
    st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X2 X15 (k0_pay1, k0_pay2, k0_pay3, k0_pay4) k
      = sums (arg2.view.read (Elt F) X2) (arg15.view.read (Elt F) X15) k := by
  induction k with
  | zero => rfl
  | succ k ih =>
    by_cases h : k < k0_t1_loop.trips
    · refine (st_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X2 X15 _ ⟨k, h⟩).trans ?_
      rw [trip_eq]
      show trip _ _ _ _ = sums _ _ (k + 1)
      rw [sums, dif_pos h, ih]
    · rw [st_k0_t1.eq_2, sums, dif_neg h, ← ih]
      unfold st_k0_t1Step
      exact dif_neg h

/-- What a point leaves in the first result's buffer. -/
abbrev outM (i : grid0.Coords) (w : Vec F S1152x768 .f32) (s : Vec F S4x1152x128 .f32) (bb : Vec F S9x1x768 .f32) : Vec F S4x768 .f32 :=
  k0_pay9 (total w s).1 (total w s).2.1 (total w s).2.2.1 (total w s).2.2.2
    (View.ld bb (Rect.unit (s := S9x1x768) (k0_off6 i) S1x1x768.size (k0_off6_inb i)))

/-- The same from the loop's carried value. -/
theorem out_eq {X2 : BufTy.Contents (Elt F) arg2.view.ty} {X15 : BufTy.Contents (Elt F) arg15.view.ty} {w : Vec F S1152x768 .f32} {s : Vec F S4x1152x128 .f32}
    (h2 : arg2.view.read (Elt F) X2 = w) (h15 : arg15.view.read (Elt F) X15 = s) (bb : Vec F S9x1x768 .f32) {a : Sums F}
    (ha : a = st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X2 X15 (k0_pay1, k0_pay2, k0_pay3, k0_pay4) k0_t1_loop.trips) :
    k0_pay9 a.1 a.2.1 a.2.2.1 a.2.2.2 (View.ld bb (Rect.unit (s := S9x1x768) (k0_off6 i) S1x1x768.size (k0_off6_inb i))) = outM i w s bb := by
  rw [ha, st_eq, h2, h15]

set_option maxHeartbeats 1000000 in
/-- Every point but the first: only the first result's buffer is stored into. -/
theorem run_rest (h : ¬first i) (w : Vec F S1152x768 .f32) (s : Vec F S4x1152x128 .f32) (bb : Vec F S9x1x768 .f32) (E : Set ℕ) (K : PUnit → sProp 𝕄) :
    iprop(owns (c : Thread nD τ) arg2 fullShare w ∗ (∃ d, owns (c : Thread nD τ) arg5 fullShare d) ∗ owns (c : Thread nD τ) arg15 fullShare s ∗ owns (c : Thread nD τ) arg16 fullShare bb
        ∗ (iprop(owns (c : Thread nD τ) arg2 fullShare w ∗ owns (c : Thread nD τ) arg5 fullShare (outM i w s bb) ∗ owns (c : Thread nD τ) arg15 fullShare s ∗ owns (c : Thread nD τ) arg16 fullShare bb) -∗ K ⟨⟩))
      ⊢ wp frame (wpE (defs₀ (F := F)) Variants.none c none) E (cc0_mod i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mod_eq_skeleton]; unfold cc0_mod_skel
  unfold owns
  iintro ⟨⟨%f1, %hf1, H1⟩, ⟨%d4, %f4, -, H4⟩, ⟨%fs0, %hfs0, HS0⟩, ⟨%fs1, %hfs1, HS1⟩, Hk⟩
  obtain rfl := harg2.eq_unread hf1; obtain rfl := harg15.eq_unread hfs0; obtain rfl := harg16.eq_unread hfs1
  sl_exec (disch := first | sl_exact h)
  sl_step
  iapply Hk
  isplitl [H1]
  · iexists _; isplitr; · ipureintro; exact harg2.read_unread _
    iexact H1
  isplitl [H4]
  · iexists _; isplitr
    swap; · iexact H4
    ipureintro
    rw [View.read_writes_full]
    rw [View.readAt_eq_ld, harg16.read_unread]
    exact out_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.read_unread _) (harg15.read_unread _) _ rfl
  isplitl [HS0]
  · iexists _; isplitr; · ipureintro; exact harg15.read_unread _
    iexact HS0
  iexists _; isplitr; · ipureintro; exact harg16.read_unread _
  iexact HS1

/-- silu(c), as it is computed. -/
abbrev silus (x0 : Vec F S4x1152 .f32) : Vec F S4x1152x128 .f32 := fun y => k0_pay19 x0 (ix2 (y 0) (y 1))
/-- The bias in nine rows of 768. -/
abbrev bias (x2 : Vec F S6912 .f32) : Vec F S9x1x768 .f32 := fun y => x2 (ix1 ⟨768 * (y 0).val + (y 2).val, by
  have h0 : (y 0).val < 9 := (y 0).isLt
  have h2 : (y 2).val < 768 := (y 2).isLt
  omega⟩)
/-- The eight scales, -/
abbrev scalesV (x3 : Vec F S8x20 .f32) : Vec F S8 .f32 := fun y => k0_pay62 x3 (ix2 (y 0) 0)
/-- and one of them. -/
abbrev scaleV (x3 : Vec F S8x20 .f32) (k : Fin 8) : Vec F S1 .f32 := fun _ => k0_pay62 x3 (ix2 k 0)

/-- One row of the bias, as it is stored. -/
theorem bias_piece (v : Vec F S6912 .f32) (o : ℕ) (inb : ∀ a, (![o] : Fin 1 → ℕ) a + (![768] : Fin 1 → ℕ) a ≤ S6912.size a)
    (x : S1x1x768.Idx) (y : S9x1x768.Idx) (hy : 768 * (y 0).val + (y 2).val = o + (x 2).val) :
    shapeCast S1x1x768 (shapeCast S1x768 (View.ld v (Rect.unit (s := S6912) ![o] ![768] inb)) shapeCasts_S768_S1x768)
      shapeCasts_S1x768_S1x1x768 x = bias v y := by
  idx_vars x
  pointwise []
  refine congrArg v (funext fun a => ?_)
  fin_cases a
  refine Fin.ext ?_
  exact hy.symm

/-- One row of silu(c), 128 entries of it laid along the lanes, as it is stored. -/
theorem silu_piece (v : Vec F S4x1152 .f32) (b o : ℕ) (hs : S4x1152.Slices ![b, o] S1x128) (x : S1x128x128.Idx) (j : S4x1152.Idx)
    (h0 : (j 0).val = b) (h1 : (j 1).val = o + (x 1).val) :
    shapeCast S1x128x128 (transpose S128x128 [1, 0] (broadcastTo S128x128 (shapeCast S1x128 (extractStridedSlice S1x128 ![b, o] v hs)
      shapeCasts_S1x128_S1x128) broadcasts_S1x128_S128x128) transposes_S128x128_p1_0_S128x128) shapeCasts_S128x128_S1x128x128 x = v j := by
  idx_vars x
  pointwise []
  refine congrArg v (funext fun a => ?_)
  fin_cases a
  · refine Fin.ext ?_
    simp [h0]
  · refine Fin.ext ?_
    simp [h1]

/-- One of the eight scales. -/
theorem scale_piece (v : Vec F S8x1 .f32) (k : ℕ) (hs : S8x1.Slices ![k, 0] S1x1) (j : S8x1.Idx) (h : (j 0).val = k) :
    extractAt ![0, 0] (extractStridedSlice S1x1 ![k, 0] v hs) inpos_S1x1_p0_0 = v j := by
  pointwise []
  refine congrArg v (funext fun a => ?_)
  fin_cases a
  · refine Fin.ext ?_
    simp [h]
  · refine Fin.ext ?_
    have h2 : (j 1).val < 1 := (j 1).isLt
    show (0 : ℕ) = (j 1).val
    omega

set_option maxHeartbeats 4000000 in
theorem run_first (h : first i) (x0 : Vec F S4x1152 .f32) (w : Vec F S1152x768 .f32) (x2 : Vec F S6912 .f32) (x3 : Vec F S8x20 .f32) (E : Set ℕ) (K : PUnit → sProp 𝕄) :
    iprop(owns (c : Thread nD τ) arg1 fullShare x0 ∗ owns (c : Thread nD τ) arg2 fullShare w ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare w ∗ owns (c : Thread nD τ) arg3 fullShare x2 ∗ owns (c : Thread nD τ) arg4 fullShare x3 ∗ owns (c : Thread nD τ) arg5 fullShare (outM i w (silus x0) (bias x2)) ∗ owns (c : Thread nD τ) arg6 fullShare (scalesV x3) ∗ owns (c : Thread nD τ) arg7 fullShare (scaleV x3 0) ∗ owns (c : Thread nD τ) arg8 fullShare (scaleV x3 1) ∗ owns (c : Thread nD τ) arg9 fullShare (scaleV x3 2) ∗ owns (c : Thread nD τ) arg10 fullShare (scaleV x3 3) ∗ owns (c : Thread nD τ) arg11 fullShare (scaleV x3 4) ∗ owns (c : Thread nD τ) arg12 fullShare (scaleV x3 5) ∗ owns (c : Thread nD τ) arg13 fullShare (scaleV x3 6) ∗ owns (c : Thread nD τ) arg14 fullShare (scaleV x3 7) ∗ owns (c : Thread nD τ) arg15 fullShare (silus x0) ∗ owns (c : Thread nD τ) arg16 fullShare (bias x2)) -∗ K ⟨⟩))
      ⊢ wp frame (wpE (defs₀ (F := F)) Variants.none c none) E (cc0_mod i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mod_eq_skeleton]; unfold cc0_mod_skel
  simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg1.eq_unread hf1; obtain rfl := harg2.eq_unread hf2; obtain rfl := harg3.eq_unread hf3; obtain rfl := harg4.eq_unread hf4
  sl_exec (disch := first | sl_exact h)
  sl_step
  have r1 : View.readAt (Elt F) arg1.view (Rect.unit (s := S4x1152) ![0, 0] S4x1152.size inb_S4x1152_S4x1152_0_0).toLoadRect (harg1.unread x0) = x0 := by
    rw [View.readAt_eq_ld, harg1.read_unread]; exact View.ld_unit_lit' _ _ (by decide)
  have r4 : View.readAt (Elt F) arg4.view (Rect.unit (s := S8x20) ![0, 0] S8x20.size inb_S8x20_S8x20_0_0).toLoadRect (harg4.unread x3) = x3 := by
    rw [View.readAt_eq_ld, harg4.read_unread]; exact View.ld_unit_lit' _ _ (by decide)
  have e15 : arg15.view.read (Elt F) (arg15.view.writes (Elt F) arg15.view.junk (run_first.sl.H15_36 c arg1 harg1 x0)) = silus x0 := by
    rw [View.read_writes_junk_eq_canon]
    funext y
    frame_open
    canon_tiles x h
    all_goals simp only [r1]
    all_goals refine silu_piece (k0_pay19 x0) _ _ _ _ _ ?_ ?_
    all_goals first
      | (show (y 0).val = _; omega)
      | (show (y 1).val = _; omega)
  have e16 : arg16.view.read (Elt F) (arg16.view.writes (Elt F) arg16.view.junk (run_first.sl.H16_9 c arg3 harg3 x2)) = bias x2 := by
    rw [View.read_writes_junk_eq_canon]
    funext y
    frame_open
    canon_tiles x h
    all_goals rw [View.readAt_eq_ld, harg3.read_unread]
    all_goals refine bias_piece x2 _ _ x y ?_
    all_goals
      have h2' : (y 2).val = (x 2).val := h2
      omega
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_full]
    have e19 : run_first.sl.v19 c i arg3 harg3 arg16 x2
        = View.ld (bias x2) (Rect.unit (s := S9x1x768) (k0_off6 i) S1x1x768.size (k0_off6_inb i)) := by
      unfold run_first.sl.v19
      rw [View.readAt_eq_ld, e16]
    rw [e19]
    exact out_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.read_unread _) e15 _ rfl
  -- the scales' buffers: what each of them reads is left for the end
  isplitl [H6]; iexists _; isplitr; rotate_left; iexact H6
  isplitl [H7]; iexists _; isplitr; rotate_left; iexact H7
  isplitl [H8]; iexists _; isplitr; rotate_left; iexact H8
  isplitl [H9]; iexists _; isplitr; rotate_left; iexact H9
  isplitl [H10]; iexists _; isplitr; rotate_left; iexact H10
  isplitl [H11]; iexists _; isplitr; rotate_left; iexact H11
  isplitl [H12]; iexists _; isplitr; rotate_left; iexact H12
  isplitl [H13]; iexists _; isplitr; rotate_left; iexact H13
  isplitl [H14]; iexists _; isplitr; rotate_left; iexact H14
  isplitl [H15]
  · iexists _; isplitr; · ipureintro; exact e15
    iexact H15
  · iexists _; isplitr; · ipureintro; exact e16
    iexact H16
  all_goals
    ipureintro
    rw [View.read_writes_junk_eq_canon]
    funext y
    frame_open
    canon_tiles x h
    all_goals simp only [r4]
    all_goals refine scale_piece (k0_pay62 x3) _ _ _ ?_
    all_goals first
      | rfl
      | (show (y 0).val = _; omega)

end Cert.Mod.Run

end
-- ==== Proof.Mod.Frame.lean ====
/-
  The modulation's kernel over its nine grid points, for any float values. Every buffer's contents after every point have
  a closed form: the inputs hold their blocks, the two scratch buffers hold silu(c) along the lanes and the bias from the
  first point on, the first result's buffer holds its block, the other nine the scales. These nine are stored at the
  first point and written back after the last; between, their buffers are left alone.
  `run_all` is the launch; `frame` the claim about the arguments and the semaphores.
-/
module

public import proofs.«01_k».proof.Proof.Mod.Run

@[expose] public section

set_option maxRecDepth 16384

noncomputable section

namespace Cert.Mod.Run

open Cert.Mod Cert.Mod.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point. -/
abbrev tz : Fin cfg0.N := ⟨0, lt_of_lt_of_eq (by decide : 0 < 9) N_0.symm⟩

/-- The two scratch buffers from the first point on, -/
abbrev scr0 (c : Dev nD) : Vec F S4x1152x128 .f32 := silus (iblk m c 0 tz)
abbrev scr1 (c : Dev nD) : Vec F S9x1x768 .f32 := bias (iblk m c 2 tz)
/-- the first result's block at a point, -/
abbrev out4 (c : Dev nD) (t : Fin cfg0.N) : Vec F S4x768 .f32 := outM (grid0.coords t) (iblk m c 1 t) (scr0 m c) (scr1 m c)
/-- the second result, -/
abbrev out5 (c : Dev nD) : Vec F S8 .f32 := scalesV (iblk m c 3 tz)
/-- and the eight after it. -/
abbrev outS (c : Dev nD) (k : Fin 8) : Vec F S1 .f32 := scaleV (iblk m c 3 tz) k

/-- The scratch buffers as memrefs. -/
abbrev scM0 : Memref sig .tc .vmem S4x1152x128 .f32 := Memref.whole cc0_scratch0
abbrev scM1 : Memref sig .tc .vmem S9x1x768 .f32 := Memref.whole cc0_scratch1

theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The scratch buffers and the generator register after the first point. -/
abbrev PhiL (c : Dev nD) : sProp 𝕄 :=
  iprop(iprop(owns (c : Thread nD τ) scM0 fullShare (scr0 m c) ∗ owns (c : Thread nD τ) scM1 fullShare (scr1 m c)) ∗ (∃ r, prngReg c r))

/-- The same before position `n`. -/
def PhiS (c : Dev nD) : ℕ → sProp 𝕄
  | 0 => Pipeline.ΦA spec0 c
  | _ + 1 => PhiL m c

/-- The contents after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c
    | ⟨6, _⟩ => outS m c 0
    | ⟨7, _⟩ => outS m c 1
    | ⟨8, _⟩ => outS m c 2
    | ⟨9, _⟩ => outS m c 3
    | ⟨10, _⟩ => outS m c 4
    | ⟨11, _⟩ => outS m c 5
    | ⟨12, _⟩ => outS m c 6
    | ⟨13, _⟩ => outS m c 7
  Φ t := PhiS m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = out4 m c t := by dsimp only [dats]
theorem after5 (c : Dev nD) (t : Fin cfg0.N) : (dats m 0 c).after 5 t = out5 m c := by dsimp only [dats]
theorem after6 (c : Dev nD) (t : Fin cfg0.N) : (dats m 0 c).after 6 t = outS m c 0 := by dsimp only [dats]
theorem after7 (c : Dev nD) (t : Fin cfg0.N) : (dats m 0 c).after 7 t = outS m c 1 := by dsimp only [dats]
theorem after8 (c : Dev nD) (t : Fin cfg0.N) : (dats m 0 c).after 8 t = outS m c 2 := by dsimp only [dats]
theorem after9 (c : Dev nD) (t : Fin cfg0.N) : (dats m 0 c).after 9 t = outS m c 3 := by dsimp only [dats]
theorem after10 (c : Dev nD) (t : Fin cfg0.N) : (dats m 0 c).after 10 t = outS m c 4 := by dsimp only [dats]
theorem after11 (c : Dev nD) (t : Fin cfg0.N) : (dats m 0 c).after 11 t = outS m c 5 := by dsimp only [dats]
theorem after12 (c : Dev nD) (t : Fin cfg0.N) : (dats m 0 c).after 12 t = outS m c 6 := by dsimp only [dats]
theorem after13 (c : Dev nD) (t : Fin cfg0.N) : (dats m 0 c).after 13 t = outS m c 7 := by dsimp only [dats]

/-! An input's buffer holds its block at every point. -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! The buffers of the second result and those after it: idle after the first point, and from then on not fresh. -/

theorem live_late : ∀ w : Fin cfg0.W, 5 ≤ w.val → ∀ t : Fin cfg0.N, first (grid0.coords t) → cfg0.idle w (grid0.coords t) = false := by
  decide +kernel
theorem idle_late : ∀ w : Fin cfg0.W, 5 ≤ w.val → ∀ t : Fin cfg0.N, ¬first (grid0.coords t) → cfg0.idle w (grid0.coords t) = true := by
  decide +kernel

def freshTab : ℕ → Bool
  | 0 => true
  | n + 1 => (0x100 : ℕ).testBit n
theorem freshTab_step : ∀ w : Fin cfg0.W, 5 ≤ w.val → ∀ t : Fin cfg0.N,
    freshTab (t.val + 1) = ((cfg0.win w).flush t || (cfg0.idle w (cfg0.grid.coords t) && freshTab t.val)) := by decide +kernel
theorem tab_late : ∀ t : Fin cfg0.N, ¬first (grid0.coords t) → freshTab t.val = false := by decide +kernel
theorem notFresh (w : Fin cfg0.W) (hw : 5 ≤ w.val) (t : Fin cfg0.N) (h : ¬first (grid0.coords t)) : cfg0.fresh w t.val = false :=
  (Pipeline.Cfg.fresh_tab cfg0 w freshTab rfl (freshTab_step w hw) t.val (Nat.le_of_lt t.isLt)).trans (tab_late t h)
theorem out_late : ∀ w : Fin cfg0.W, 5 ≤ w.val → (cfg0.win w).isOut = true := by decide +kernel
theorem clip_late (w : Fin cfg0.W) (hw : 5 ≤ w.val) (i : cfg0.grid.Coords) (a) : (cfg0.win w).clip i a = none := by
  obtain ⟨n, hn⟩ := w
  match n, hn, hw with
  | 5, _, _ | 6, _, _ | 7, _, _ | 8, _, _ | 9, _, _ | 10, _, _ | 11, _, _ | 12, _, _ | 13, _, _ => rfl
theorem after_late (c : Dev nD) (w : Fin cfg0.W) (hw : 5 ≤ w.val) (t t' : Fin cfg0.N) : (dats m 0 c).after w t = (dats m 0 c).after w t' := by
  obtain ⟨n, hn⟩ := w
  match n, hn, hw with
  | 5, _, _ | 6, _, _ | 7, _, _ | 8, _, _ | 9, _, _ | 10, _, _ | 11, _, _ | 12, _, _ | 13, _, _ => rfl

theorem before_late (c : Dev nD) (w : Fin cfg0.W) (hw : 5 ≤ w.val) (t : Fin cfg0.N) (h : ¬first (grid0.coords t)) (d) :
    (dats m 0 c).before w t d = (dats m 0 c).after w t := by
  rw [Dat.before_out_traj _ w (out_late w hw) (clip_late w hw) (fun _ _ _ _ => after_late m c w hw _ _) t.val t rfl d,
    if_neg (by rw [notFresh w hw t h]; exact Bool.false_ne_true)]
  exact after_late m c w hw _ _

abbrev ms0 (t : Fin cfg0.N) : Memref sig .tc .vmem S4x1152 .f32 := win0_0.stage (cfg0.slots t 0)
abbrev ms1 (t : Fin cfg0.N) : Memref sig .tc .vmem S1152x768 .f32 := win0_1.stage (cfg0.slots t 1)
abbrev ms2 (t : Fin cfg0.N) : Memref sig .tc .vmem S6912 .f32 := win0_2.stage (cfg0.slots t 2)
abbrev ms3 (t : Fin cfg0.N) : Memref sig .tc .vmem S8x20 .f32 := win0_3.stage (cfg0.slots t 3)
abbrev ms4 (t : Fin cfg0.N) : Memref sig .tc .vmem S4x768 .f32 := win0_4.stage (cfg0.slots t 4)
abbrev ms5 (t : Fin cfg0.N) : Memref sig .tc .smem S8 .f32 := win0_5.stage (cfg0.slots t 5)
abbrev ms6 (t : Fin cfg0.N) : Memref sig .tc .smem S1 .f32 := win0_6.stage (cfg0.slots t 6)
abbrev ms7 (t : Fin cfg0.N) : Memref sig .tc .smem S1 .f32 := win0_7.stage (cfg0.slots t 7)
abbrev ms8 (t : Fin cfg0.N) : Memref sig .tc .smem S1 .f32 := win0_8.stage (cfg0.slots t 8)
abbrev ms9 (t : Fin cfg0.N) : Memref sig .tc .smem S1 .f32 := win0_9.stage (cfg0.slots t 9)
abbrev ms10 (t : Fin cfg0.N) : Memref sig .tc .smem S1 .f32 := win0_10.stage (cfg0.slots t 10)
abbrev ms11 (t : Fin cfg0.N) : Memref sig .tc .smem S1 .f32 := win0_11.stage (cfg0.slots t 11)
abbrev ms12 (t : Fin cfg0.N) : Memref sig .tc .smem S1 .f32 := win0_12.stage (cfg0.slots t 12)
abbrev ms13 (t : Fin cfg0.N) : Memref sig .tc .smem S1 .f32 := win0_13.stage (cfg0.slots t 13)

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-- A window that is never idle hands back its contents after the point. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- A buffer left alone holds what its window hands back. -/
theorem leaves_late (c : Dev nD) (w : Fin cfg0.W) (hw : 5 ≤ w.val) (t : Fin cfg0.N) (h : ¬first (grid0.coords t)) (d) :
    owns (c : Thread nD τ) ((cfg0.win w).stage (cfg0.slots t w)) fullShare ((dats m 0 c).before w t d) ⊢ ((dats m 0 c).leavesExact w t : sProp 𝕄) := by
  cases hf : (cfg0.win w).flush t with
  | false =>
    rw [Dat.leavesExact_idle _ w t (idle_late w hw t h) hf]
    iintro H
    iexists d
    iexact H
  | true =>
    rw [before_late m c w hw t h]
    unfold Dat.leavesExact
    rw [idle_late w hw t h, hf]

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiL m c from rfl]
  rw [show (dats m 0 c).Φ t.castSucc = PhiS m c t.val from rfl]
  rw [leaves_live m c 0 t rfl, after0]
  rw [leaves_live m c 1 t rfl, after1]
  rw [leaves_live m c 2 t rfl, after2]
  rw [leaves_live m c 3 t rfl, after3]
  rw [leaves_live m c 4 t rfl, after4]
  by_cases h : first (grid0.coords t)
  · have hz : t.val = 0 := (first_iff t).mp h
    obtain rfl : t = tz := Fin.ext hz
    rw [leaves_live m c 5 tz (live_late 5 (by decide) tz h), after5]
    rw [leaves_live m c 6 tz (live_late 6 (by decide) tz h), after6]
    rw [leaves_live m c 7 tz (live_late 7 (by decide) tz h), after7]
    rw [leaves_live m c 8 tz (live_late 8 (by decide) tz h), after8]
    rw [leaves_live m c 9 tz (live_late 9 (by decide) tz h), after9]
    rw [leaves_live m c 10 tz (live_late 10 (by decide) tz h), after10]
    rw [leaves_live m c 11 tz (live_late 11 (by decide) tz h), after11]
    rw [leaves_live m c 12 tz (live_late 12 (by decide) tz h), after12]
    rw [leaves_live m c 13 tz (live_late 13 (by decide) tz h), after13]
    rw [show PhiS m c (tz : Fin cfg0.N).val = Pipeline.ΦA spec0 c from rfl, PhiA_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_first c (grid0.coords tz) _ _ _ _ _ _ _ _ _ _ _ _ _ _ _ _ _ _ _ _ _ _ _ _ _ _ _ _ scM0 (Memref.isWhole_whole _) scM1 (Memref.isWhole_whole _) h (iblk m c 0 tz) (iblk m c 1 tz) (iblk m c 2 tz) (iblk m c 3 tz) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    iintro ⟨H0, H1, H2, H3, H4, H5, H6, H7, H8, H9, H10, H11, H12, H13, HS0, HS1⟩
    isplitl [HS0 HS1 Hg]
    · isplitr [Hg]; swap; · iexact Hg
      isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · obtain ⟨n, hn⟩ : ∃ n, t.val = n + 1 := Nat.exists_eq_succ_of_ne_zero fun hz => h ((first_iff t).mpr hz)
    rw [show PhiS m c t.val = PhiL m c from by rw [hn]; rfl]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_rest c (grid0.coords t) _ _ _ _ _ _ _ _ _ _ _ _ _ _ _ _ _ _ _ _ _ _ _ _ _ _ _ _ scM0 (Memref.isWhole_whole _) scM1 (Memref.isWhole_whole _) h (iblk m c 1 t) (scr0 m c) (scr1 m c) Set.univ _)
    isplitl [H1]; · iexact H1
    isplitl [H4]; · iexists _; iexact H4
    isplitl [HS0]; · iexact HS0
    isplitl [HS1]; · iexact HS1
    iintro ⟨H1, H4, HS0, HS1⟩
    isplitl [HS0 HS1 Hg]
    · isplitr [Hg]; swap; · iexact Hg
      isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iapply (leaves_late m c 5 (by decide) t h d5); iexact H5
    isplitl [H6]; · iapply (leaves_late m c 6 (by decide) t h d6); iexact H6
    isplitl [H7]; · iapply (leaves_late m c 7 (by decide) t h d7); iexact H7
    isplitl [H8]; · iapply (leaves_late m c 8 (by decide) t h d8); iexact H8
    isplitl [H9]; · iapply (leaves_late m c 9 (by decide) t h d9); iexact H9
    isplitl [H10]; · iapply (leaves_late m c 10 (by decide) t h d10); iexact H10
    isplitl [H11]; · iapply (leaves_late m c 11 (by decide) t h d11); iexact H11
    isplitl [H12]; · iapply (leaves_late m c 12 (by decide) t h d12); iexact H12
    iapply (leaves_late m c 13 (by decide) t h d13); iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiL m c from by
    show PhiS m c cfg0.N = _
    rw [show cfg0.N = 8 + 1 from N_0]; rfl, PhiA_eq]
  iintro ⟨⟨HS0, HS1⟩, Hg⟩
  isplitr [Hg]; swap; · iexact Hg
  isplitl [HS0]
  · iexists _; iexact HS0
  iexists _; iexact HS1

set_option backward.isDefEq.respectTransparency.types false in
/-- The launch: every array ends at what the contents after the points say, every semaphore at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3))⟩, h.2⟩) (run_all m ρ)

/-- The run with the ten results named: each is its array as the points left it. -/
theorem run_values : θ_run defs (onTc (τ := τ) (main (F := F))) ⟨m, fun _ => 0, ρ⟩ (fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = (dats m 0 c).arrAt 6 cfg0.N
      ∧ r.2.mem ((c.tc : Thread nD τ).loc main_v0_3) = (dats m 0 c).arrAt 7 cfg0.N
      ∧ r.2.mem ((c.tc : Thread nD τ).loc main_v0_4) = (dats m 0 c).arrAt 8 cfg0.N
      ∧ r.2.mem ((c.tc : Thread nD τ).loc main_v0_5) = (dats m 0 c).arrAt 9 cfg0.N
      ∧ r.2.mem ((c.tc : Thread nD τ).loc main_v0_6) = (dats m 0 c).arrAt 10 cfg0.N
      ∧ r.2.mem ((c.tc : Thread nD τ).loc main_v0_7) = (dats m 0 c).arrAt 11 cfg0.N
      ∧ r.2.mem ((c.tc : Thread nD τ).loc main_v0_8) = (dats m 0 c).arrAt 12 cfg0.N
      ∧ r.2.mem ((c.tc : Thread nD τ).loc main_v0_9) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 4, (h.1 c).1 5, (h.1 c).1 6, (h.1 c).1 7, (h.1 c).1 8, (h.1 c).1 9, (h.1 c).1 10, (h.1 c).1 11, (h.1 c).1 12, (h.1 c).1 13,
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3))⟩) (run_all m ρ)

end Cert.Mod.Run

end
-- ==== Proof.Mod.Spec.lean ====
/-
  What the modulation computes, over the extended reals and with no program in sight: an affine map of silu(c), and the
  eight scales of a layer from its history of absolute maxima.
-/
module

public import Idealize.ShloMosaic.Lib.Pointwise

@[expose] public section

noncomputable section

namespace Cert.Md

open Idealize.ShloMosaic

/-- The argument entries: the conditioning vectors, the weights and the bias of the affine map, and the last twenty
    absolute maxima of each of the eight quantised tensors. -/
structure Args where
  c : Fin 4 → Fin 1152 → EReal
  w : Fin 1152 → Fin 6912 → EReal
  b : Fin 6912 → EReal
  hist : Fin 8 → Fin 20 → EReal

/-- silu, `v / (1 + exp (-v))`. -/
def silu (v : EReal) : EReal := v * Ideal.div 1 (1 + Ideal.exp (-v))

/-- An entry of the modulation. -/
def Args.mod (a : Args) (i : Fin 4) (j : Fin 6912) : EReal := (∑ k, silu (a.c i k) * a.w k j) + a.b j

/-- The largest finite value of the `k`-th tensor's format: the first four are e4m3, the others e5m2. -/
def fmax (k : Fin 8) : EReal := if k.val < 4 then Ideal.ofBits .f32 0x43E00000#32 else Ideal.ofBits .f32 0x47600000#32

/-- The same from the comparison of `k` with four. -/
theorem fmax_eq (k : Fin 8) : Scalar.select (IntOp.cmpi CmpIPredicate.slt (BitVec.ofNat 32 k.val) 4#32) (Ideal.ofBits .f32 0x43E00000#32)
    (Ideal.ofBits .f32 0x47600000#32) = fmax k := by
  fin_cases k <;> rfl

/-- The maximum of twenty entries. -/
def amax (h : Fin 20 → EReal) : EReal := Finset.fold max (Ideal.ofBits .f32 0xFF800000#32) h Finset.univ

/-- The scale of the `k`-th tensor, one if its history is zero. -/
def Args.scale (a : Args) (k : Fin 8) : EReal :=
  if amax (a.hist k) = 0 then 1 else Ideal.div (amax (a.hist k)) (fmax k)

end Cert.Md

end
-- ==== Proof.Mod.KernelValue.lean ====
/-
  What the pipelined kernel of the modulation returns, as functions of its arguments: the modulation, 768 columns at a
  point, and the eight scales. A point's sums over 1152 rows are taken eight rows a trip; `total_eq` is the loop.
-/
module

public import proofs.«01_k».proof.Proof.Mod.Frame
public import proofs.«01_k».proof.Proof.Mod.Spec

@[expose] public section

set_option maxRecDepth 16384

noncomputable section

namespace Cert.Mod.Run

open Cert.Mod Cert.Mod.Gen Idealize.ShloMosaic Idealize.ShloMosaic.TcCoe Idealize.SL.Sem
open Cert.Md

/-! ## The stored values, entry by entry -/

theorem silu_eq (x : Vec Ideal S4x1152 .f32) (i : Fin 4) (k : Fin 1152) : k0_pay19 x (ix2 i k) = silu (x (ix2 i k)) := by
  pointwise [k0_pay19]
  rfl

/-- A trip's sum of one row of c: the eight rows of weights times the eight entries laid along the lanes. -/
theorem step_eq (a : FVec Ideal S8x768 .f32) (w : Vec Ideal S8x768 .f32) (s : Vec Ideal S1x8x128 .f32) (r : Fin 8) (j : Fin 768) :
    k0_pay5 a w s (ix2 r j) = a (ix2 r j) + w (ix2 r j) * s (ix3 0 r ⟨j.val % 128, Nat.mod_lt _ (by decide)⟩) := by
  pointwise [k0_pay5]
  refine congrArg (fun z => a (ix2 r j) + w (ix2 r j) * z) ?_
  split_ifs
  all_goals
    refine congrArg (fun l => s (ix3 0 r l)) (Fin.ext ?_)
    show _ = j.val % 128
    have hj := j.isLt
    simp only
    omega

/-- The sums of the `b`-th row of c. -/
abbrev comp (a : Sums Ideal) (b : Fin 4) : FVec Ideal S8x768 .f32 :=
  match b with
  | 0 => a.1
  | 1 => a.2.1
  | 2 => a.2.2.1
  | 3 => a.2.2.2

/-- What a point stores: the eight rows added up, and the bias. -/
theorem last_eq (a : Sums Ideal) (v : Vec Ideal S1x1x768 .f32) (b : Fin 4) (j : Fin 768) :
    k0_pay9 a.1 a.2.1 a.2.2.1 a.2.2.2 v (ix2 b j) = (∑ r : Fin 8, comp a b (ix2 r j)) + v (ix3 0 0 j) := by
  pointwise [k0_pay9]
  fin_cases b <;> rfl

theorem scale_eq (x : Vec Ideal S8x20 .f32) (k : Fin 8) :
    k0_pay62 x (ix2 k 0) = if amax (fun l => x (ix2 k l)) = 0 then 1 else Ideal.div (amax (fun l => x (ix2 k l))) (fmax k) := by
  pointwise [k0_pay62]
  rw [← fmax_eq]
  rfl

/-! ## The loop -/

/-- Where a trip's loads start. -/
theorem offs : ∀ k : Fin k0_t1_loop.trips, k0_off1 k = ![8 * k.val, 0] ∧ k0_off2 k = ![0, 8 * k.val, 0] ∧ k0_off3 k = ![1, 8 * k.val, 0] ∧
    k0_off4 k = ![2, 8 * k.val, 0] ∧ k0_off5 k = ![3, 8 * k.val, 0] := by
  decide +kernel

theorem trips_eq : k0_t1_loop.trips = 144 := by decide +kernel

/-- Row `r` of trip `k`. -/
abbrev row (k : Fin k0_t1_loop.trips) (r : Fin 8) : Fin 1152 := ⟨8 * k.val + r.val, by
  have hk : k.val < 144 := Nat.lt_of_lt_of_eq k.isLt trips_eq
  omega⟩

theorem ld_w (w : Vec Ideal S1152x768 .f32) (k : Fin k0_t1_loop.trips) (r : Fin 8) (j : Fin 768) :
    View.ld w (Rect.unit (s := S1152x768) (k0_off1 k) S8x768.size (k0_off1_inb k)) (ix2 r j) = w (ix2 (row k r) j) := by
  obtain ⟨e1, -⟩ := offs k
  refine congrArg w (funext fun a => Fin.ext ?_)
  show k0_off1 k a + 1 * (ix2 r j a).val = _
  rw [e1]
  fin_cases a
  · show 8 * k.val + 1 * r.val = 8 * k.val + r.val
    omega
  · show 0 + 1 * j.val = j.val
    omega

/-- A load of eight entries of one row of silu(c). -/
theorem ld_s (s : Vec Ideal S4x1152x128 .f32) (k : Fin k0_t1_loop.trips) (b : Fin 4) (o : Fin 3 → ℕ) (inb : ∀ a, o a + S1x8x128.size a ≤ S4x1152x128.size a)
    (ho : o = ![b.val, 8 * k.val, 0]) (r : Fin 8) (l : Fin 128) :
    View.ld s (Rect.unit (s := S4x1152x128) o S1x8x128.size inb) (ix3 0 r l) = s (ix3 b (row k r) l) := by
  refine congrArg s (funext fun a => Fin.ext ?_)
  show o a + 1 * (ix3 (0 : Fin 1) r l a).val = _
  subst ho
  fin_cases a
  · show b.val + 1 * 0 = b.val
    omega
  · show 8 * k.val + 1 * r.val = 8 * k.val + r.val
    omega
  · show 0 + 1 * l.val = l.val
    omega

theorem trip_comp (w : Vec Ideal S1152x768 .f32) (s : Vec Ideal S4x1152x128 .f32) (k : Fin k0_t1_loop.trips) (a : Sums Ideal) (b : Fin 4)
    (r : Fin 8) (j : Fin 768) :
    comp (trip w s k a) b (ix2 r j)
      = comp a b (ix2 r j) + w (ix2 (row k r) j) * s (ix3 b (row k r) ⟨j.val % 128, Nat.mod_lt _ (by decide)⟩) := by
  obtain ⟨-, e2, e3, e4, e5⟩ := offs k
  match b with
  | 0 => exact (step_eq _ _ _ r j).trans (congrArg _ (congrArg₂ (· * ·) (ld_w w k r j) (ld_s s k 0 _ _ e2 r _)))
  | 1 => exact (step_eq _ _ _ r j).trans (congrArg _ (congrArg₂ (· * ·) (ld_w w k r j) (ld_s s k 1 _ _ e3 r _)))
  | 2 => exact (step_eq _ _ _ r j).trans (congrArg _ (congrArg₂ (· * ·) (ld_w w k r j) (ld_s s k 2 _ _ e4 r _)))
  | 3 => exact (step_eq _ _ _ r j).trans (congrArg _ (congrArg₂ (· * ·) (ld_w w k r j) (ld_s s k 3 _ _ e5 r _)))

/-- The term of trip `n`, if there is one. -/
def term (T : Fin 1152 → EReal) (r : Fin 8) (n : ℕ) : EReal :=
  if h : n < 144 then T ⟨8 * n + r.val, by omega⟩ else 0

/-- The eight sums over the trips are the whole sum. -/
theorem sum_term (T : Fin 1152 → EReal) : ∑ r : Fin 8, ∑ n ∈ Finset.range 144, term T r n = ∑ k, T k := by
  rw [← (finProdFinEquiv (m := 144) (n := 8)).sum_comp T, Fintype.sum_prod_type, Finset.sum_comm, Finset.sum_range]
  refine Finset.sum_congr rfl fun n _ => Finset.sum_congr rfl fun r _ => ?_
  rw [term, dif_pos n.isLt]
  refine congrArg T (Fin.ext ?_)
  show 8 * n.val + r.val = r.val + 8 * n.val
  omega

/-- The sums before trip `n`. -/
theorem sums_eq (w : Vec Ideal S1152x768 .f32) (s : Vec Ideal S4x1152x128 .f32) (b : Fin 4) (r : Fin 8) (j : Fin 768) (n : ℕ) (hn : n ≤ 144) :
    comp (sums w s n) b (ix2 r j)
      = ∑ k ∈ Finset.range n, term (fun k => w (ix2 k j) * s (ix3 b k ⟨j.val % 128, Nat.mod_lt _ (by decide)⟩)) r k := by
  induction n with
  | zero =>
    rw [Finset.sum_range_zero]
    match b with
    | 0 => pointwise [sums, comp, k0_pay1]
    | 1 => pointwise [sums, comp, k0_pay2]
    | 2 => pointwise [sums, comp, k0_pay3]
    | 3 => pointwise [sums, comp, k0_pay4]
  | succ n ih =>
    have h : n < k0_t1_loop.trips := by rw [trips_eq]; omega
    rw [sums, dif_pos h, trip_comp, ih (by omega), Finset.sum_range_succ, term, dif_pos (by omega)]

/-- What a point stores, from the buffers it reads. -/
theorem outM_eq (i : grid0.Coords) (w : Vec Ideal S1152x768 .f32) (s : Vec Ideal S4x1152x128 .f32) (bb : Vec Ideal S9x1x768 .f32) (b : Fin 4) (j : Fin 768) :
    outM i w s bb (ix2 b j)
      = (∑ k, w (ix2 k j) * s (ix3 b k ⟨j.val % 128, Nat.mod_lt _ (by decide)⟩)) + View.ld bb (Rect.unit (s := S9x1x768) (k0_off6 i) S1x1x768.size (k0_off6_inb i)) (ix3 0 0 j) := by
  refine (last_eq _ _ b j).trans (congrArg (· + _) ?_)
  refine (Finset.sum_congr rfl fun r _ => ?_).trans (sum_term _)
  rw [← sums_eq w s b r j 144 le_rfl]
  exact congrArg (fun n => comp (sums w s n) b (ix2 r j)) trips_eq

variable (m : (ℓ : Loc nD τ sig) → Buf (Elt Ideal) ℓ) (c : Dev nD) (t : Fin cfg0.N)

/-- Device `c`'s argument entries. -/
def args : Args where
  c i k := m ((c : Thread nD τ).loc main_arg0) (ix2 i k)
  w k j := m ((c : Thread nD τ).loc main_arg1) (ix2 k j)
  b j := m ((c : Thread nD τ).loc main_arg2) (ix1 j)
  hist k l := m ((c : Thread nD τ).loc main_arg3) (ix2 k l)

/-- Where the blocks of the inputs and of the first result start, in blocks, and the row of the bias a point reads. -/
theorem idx : ∀ t : Fin cfg0.N, win0_0.index t = ![0, 0] ∧ win0_1.index t = ![0, t.val] ∧ win0_2.index t = ![0] ∧
    win0_3.index t = ![0, 0] ∧ win0_4.index t = ![0, t.val] ∧ k0_off6 (grid0.coords t) = ![t.val, 0, 0] := by
  decide +kernel

/-- Column `j` of point `t`'s block. -/
abbrev col (j : Fin 768) : Fin 6912 := ⟨768 * t.val + j.val, by
  have ht : t.val < 9 := Nat.lt_of_lt_of_eq t.isLt N_0
  omega⟩

/-! ## Each input's block is its argument, or its columns -/

theorem iblk0 (i : Fin 4) (k : Fin 1152) : iblk m c 0 t (ix2 i k) = (args m c).c i k := by
  obtain ⟨e0, e1, e2, e3, e4, e5⟩ := idx t
  blk_point [iblk, V, args, e0]

theorem iblk1 (k : Fin 1152) (j : Fin 768) : iblk m c 1 t (ix2 k j) = (args m c).w k (col t j) := by
  obtain ⟨e0, e1, e2, e3, e4, e5⟩ := idx t
  blk_point [iblk, V, args, col, e1]

theorem iblk2 (j : Fin 6912) : iblk m c 2 t (ix1 j) = (args m c).b j := by
  obtain ⟨e0, e1, e2, e3, e4, e5⟩ := idx t
  blk_point [iblk, V, args, e2]

theorem iblk3 (k : Fin 8) (l : Fin 20) : iblk m c 3 t (ix2 k l) = (args m c).hist k l := by
  obtain ⟨e0, e1, e2, e3, e4, e5⟩ := idx t
  blk_point [iblk, V, args, e3]

/-! ## The results -/

/-- The row of the bias a point reads. -/
theorem ld_b (j : Fin 768) :
    View.ld (scr1 m c) (Rect.unit (s := S9x1x768) (k0_off6 (grid0.coords t)) S1x1x768.size (k0_off6_inb (grid0.coords t))) (ix3 0 0 j)
      = (args m c).b (col t j) := by
  obtain ⟨e0, e1, e2, e3, e4, e5⟩ := idx t
  refine Eq.trans ?_ (iblk2 m c tz (col t j))
  refine congrArg (fun q => iblk m c 2 tz (ix1 q)) (Fin.ext ?_)
  show 768 * (k0_off6 (grid0.coords t) 0 + 1 * 0) + (k0_off6 (grid0.coords t) 2 + 1 * j.val) = 768 * t.val + j.val
  rw [e5]
  show 768 * (t.val + 1 * 0) + (0 + 1 * j.val) = _
  omega

/-- A point leaves its columns of the modulation. -/
theorem out4_eq (y : S4x768.Idx) : out4 m c t y = (args m c).mod (y 0) (col t (y 1)) := by
  idx_vars y
  refine (outM_eq _ _ _ _ y0 y1).trans (congrArg₂ (· + ·) (Finset.sum_congr rfl fun k _ => ?_) (ld_b m c t y1))
  refine (mul_comm _ _).trans (congrArg₂ (· * ·) ?_ (iblk1 m c t k y1))
  exact (silu_eq _ y0 k).trans (congrArg silu (iblk0 m c tz y0 k))

/-- The scales. -/
theorem outS_eq (k : Fin 8) : k0_pay62 (iblk m c 3 tz) (ix2 k 0) = (args m c).scale k := by
  refine (scale_eq _ k).trans ?_
  rw [show (fun l => iblk m c 3 tz (ix2 k l)) = (args m c).hist k from funext fun l => iblk3 m c tz k l]
  rfl

/-- The first array returned is the modulation. -/
theorem K4_eq : (dats m 0 c).arrAt 4 cfg0.N = fun y : S4x6912.Idx => (args m c).mod (y 0) (y 1) := by
  refine (dats m 0 c).arrAt_eq_of_covers 4 _ (by decide +kernel) fun t hf y => ?_
  obtain ⟨e0, e1, e2, e3, e4, e5⟩ := idx t
  blk_simp
  rw [after4, out4_eq]
  refine congrArg₂ (args m c).mod (Fin.ext ?_) (Fin.ext ?_)
  · blk_simp [e4]
  · blk_simp [e4]
    exact congrArg (· + _) (Nat.mul_comm _ _)

/-- The second array returned is the eight scales. -/
theorem K5_eq : (dats m 0 c).arrAt 5 cfg0.N = fun y : S8.Idx => (args m c).scale (y 0) := by
  refine (dats m 0 c).arrAt_eq_of_covers 5 _ (by decide +kernel) fun t hf y => ?_
  have e : ∀ t : Fin cfg0.N, win0_5.index t = ![0] := by decide +kernel
  blk_simp
  rw [after5]
  refine (outS_eq m c (y 0)).trans (congrArg (args m c).scale (Fin.ext ?_))
  blk_simp [e t]

/-- The eight arrays after them are the scales one by one. -/
theorem KS_eq : (dats m 0 c).arrAt 6 cfg0.N = (fun _ : S1.Idx => (args m c).scale 0) ∧
    (dats m 0 c).arrAt 7 cfg0.N = (fun _ : S1.Idx => (args m c).scale 1) ∧
    (dats m 0 c).arrAt 8 cfg0.N = (fun _ : S1.Idx => (args m c).scale 2) ∧
    (dats m 0 c).arrAt 9 cfg0.N = (fun _ : S1.Idx => (args m c).scale 3) ∧
    (dats m 0 c).arrAt 10 cfg0.N = (fun _ : S1.Idx => (args m c).scale 4) ∧
    (dats m 0 c).arrAt 11 cfg0.N = (fun _ : S1.Idx => (args m c).scale 5) ∧
    (dats m 0 c).arrAt 12 cfg0.N = (fun _ : S1.Idx => (args m c).scale 6) ∧
    (dats m 0 c).arrAt 13 cfg0.N = (fun _ : S1.Idx => (args m c).scale 7) := by
  refine ⟨?_, ?_, ?_, ?_, ?_, ?_, ?_, ?_⟩
  all_goals
    refine (dats m 0 c).arrAt_eq_of_covers _ _ (by decide +kernel) fun t hf y => ?_
    blk_simp
    exact outS_eq m c _

end Cert.Mod.Run

end
-- ==== Proof.Mod.RefValue.lean ====
/-
  What the reference of the modulation returns, as functions of its arguments.
-/
module

public import proofs.«01_k».proof.Proof.Gen.ModReferenceIdeal.Run
public import proofs.«01_k».proof.Proof.Mod.Spec

@[expose] public section

set_option maxRecDepth 16384

noncomputable section

namespace Cert.ModReferenceIdeal.Val

open Cert.ModReferenceIdeal Cert.ModReferenceIdeal.Gen
open Idealize.ShloMosaic Idealize.ShloMosaic.TcCoe Idealize.SL.Sem
open Cert.Md

/-- The reference's first result, from its arguments, -/
abbrev modR {F : FTy → Type} [FloatOps F] (x0 : FVec F S4x1152 .f32) (x1 : FVec F S1152x6912 .f32) (x2 : FVec F S6912 .f32) : FVec F S4x6912 .f32 :=
  addf (Host.dotGeneral dot_S4x1152_S1152x6912_S4x6912_1_0_0_1_n_n (some .fp32) (mulf x0 (Host.divf (broadcastInDim S4x1152 ![] bcast_S_S4x1152 (constant S_ .f32 0x3F800000#32)) (addf (broadcastInDim S4x1152 ![] bcast_S_S4x1152 (constant S_ .f32 0x3F800000#32)) (Host.exp (Host.negf x0))))) x1) (broadcastInDim S4x6912 ![0, 1] bcast_S1x6912_S4x6912_0_1 (broadcastInDim S1x6912 ![1] bcast_S6912_S1x6912_1 x2))

/-- and its second. -/
abbrev scaleR {F : FTy → Type} [FloatOps F] (x3 : FVec F S8x20 .f32) : FVec F S8 .f32 :=
  select (cmpf .oeq (Host.reduce FloatOps.maximumf x3 (constant S_ .f32 0xFF800000#32) reducesTo_S8x20_S8_d1 h_S_) (broadcastInDim S8 ![] bcast_S_S8 (constant S_ .f32 0x00000000#32))) (broadcastInDim S8 ![] bcast_S_S8 (id (constant S_ .f32 0x3F800000#32))) (Host.divf (Host.reduce FloatOps.maximumf x3 (constant S_ .f32 0xFF800000#32) reducesTo_S8x20_S8_d1 h_S_) (id (select (cmpi .slt (iotaInDim S8 32 0) (broadcastInDim S8 ![] bcast_S_S8 (constantI S_ 32 4#32))) (broadcastInDim S8 ![] bcast_S_S8 (constant S_ .f32 0x43E00000#32)) (broadcastInDim S8 ![] bcast_S_S8 (constant S_ .f32 0x47600000#32)))))

/-- One of the scales. -/
theorem slice_eq {F : FTy → Type} [FloatOps F] (x : FVec F S8 .f32) (k : ℕ) (hs : S8.Slices ![k] S1) (hk : k < 8) :
    extractStridedSlice S1 ![k] x hs = fun _ => x (ix1 ⟨k, hk⟩) := by
  funext y
  idx_vars y
  pointwise []

theorem modR_eq (x0 : FVec Ideal S4x1152 .f32) (x1 : FVec Ideal S1152x6912 .f32) (x2 : FVec Ideal S6912 .f32) (i : Fin 4) (j : Fin 6912) :
    modR x0 x1 x2 (ix2 i j) = (∑ k, silu (x0 (ix2 i k)) * x1 (ix2 k j)) + x2 (ix1 j) := by
  pointwise [modR]
  rfl

theorem scaleR_eq (x3 : FVec Ideal S8x20 .f32) (k : Fin 8) :
    scaleR x3 (ix1 k) = if amax (fun l => x3 (ix2 k l)) = 0 then 1 else Ideal.div (amax (fun l => x3 (ix2 k l))) (fmax k) := by
  pointwise [scaleR, id]
  rw [← fmax_eq]
  rfl

variable (m : (ℓ : Loc nD τ sig) → Buf (Elt Ideal) ℓ) (c : Dev nD)

/-- Device `c`'s argument entries. -/
def args : Args where
  c i k := m ((c : Thread nD τ).loc main_arg0) (ix2 i k)
  w k j := m ((c : Thread nD τ).loc main_arg1) (ix2 k j)
  b j := m ((c : Thread nD τ).loc main_arg2) (ix1 j)
  hist k l := m ((c : Thread nD τ).loc main_arg3) (ix2 k l)

/-- The first array returned is the modulation. -/
theorem R0_eq : modR (F := Ideal) (m ((c : Thread nD τ).loc main_arg0)) (m ((c : Thread nD τ).loc main_arg1)) (m ((c : Thread nD τ).loc main_arg2))
    = fun y : S4x6912.Idx => (args m c).mod (y 0) (y 1) := by
  funext y
  idx_vars y
  exact modR_eq _ _ _ y0 y1

/-- The second is the eight scales, -/
theorem R1_eq : scaleR (F := Ideal) (m ((c : Thread nD τ).loc main_arg3)) = fun y : S8.Idx => (args m c).scale (y 0) := by
  funext y
  idx_vars y
  exact scaleR_eq _ y0

/-- and those after it are the scales one by one. -/
theorem RS_eq (k : ℕ) (hs : S8.Slices ![k] S1) (hk : k < 8) :
    extractStridedSlice S1 ![k] (scaleR (F := Ideal) (m ((c : Thread nD τ).loc main_arg3))) hs = fun _ : S1.Idx => (args m c).scale ⟨k, hk⟩ :=
  (slice_eq _ k hs hk).trans (funext fun _ => scaleR_eq _ ⟨k, hk⟩)

end Cert.ModReferenceIdeal.Val

end
-- ==== Proof.Mod.Equation.lean ====
/-
  The modulation's kernel and its reference return the same arrays of arguments that agree. Over the extended reals
  the kernel and its ideal form are one program, under two names; `run_ideal` states the kernel's run for the second.
-/
module

public import proofs.«01_k».proof.Defs
public import proofs.«01_k».proof.Proof.Gen.ModIdeal
public import proofs.«01_k».proof.Proof.Mod.KernelValue
public import proofs.«01_k».proof.Proof.Mod.RefValue

@[expose] public section

set_option maxRecDepth 16384

noncomputable section

namespace Cert.Md

open Idealize.ShloMosaic Idealize.ShloMosaic.TcCoe Idealize.SL.Sem

/-! ## One program under two names -/

theorem defs₀_eq : Cert.ModIdeal.defs₀ (F := Ideal) = Cert.Mod.defs₀ (F := Ideal) := by
  funext p
  cases p with
  | tc =>
    funext ℓ a
    match ℓ, a with
    | 0, (t, s) => rfl
  | scScalar c => rfl
  | scVector c d => rfl

theorem defs_eq : Cert.ModIdeal.defs (F := Ideal) = Cert.Mod.defs (F := Ideal) :=
  congrArg (Pipeline.defs Cert.Mod.pcfgs) defs₀_eq

theorem main_eq : Cert.ModIdeal.main (F := Ideal) = Cert.Mod.main (F := Ideal) := rfl

/-- The ideal kernel's arguments end unchanged, and every semaphore at zero. -/
theorem frame_ideal : Cert.quiescent_ModIdeal := fun m ρ _ => by
  have h := Cert.Mod.Run.frame (F := Ideal) m ρ
  rw [← defs_eq] at h
  exact h

section
open Cert.ModIdeal
variable (m : (ℓ : Loc nD τ sig) → Buf (Elt Ideal) ℓ) (ρ : Dev nD → PrngReg)

/-- What the ideal kernel returns. -/
def K4 (c : Dev nD) : Buf (Elt Ideal) ((c : Thread nD τ).loc main_v0_0) := (Cert.Mod.Run.dats (F := Ideal) m 0 c).arrAt 4 Cert.Mod.cfg0.N
def K5 (c : Dev nD) : Buf (Elt Ideal) ((c : Thread nD τ).loc main_v0_1) := (Cert.Mod.Run.dats (F := Ideal) m 0 c).arrAt 5 Cert.Mod.cfg0.N
def K6 (c : Dev nD) : Buf (Elt Ideal) ((c : Thread nD τ).loc main_v0_2) := (Cert.Mod.Run.dats (F := Ideal) m 0 c).arrAt 6 Cert.Mod.cfg0.N
def K7 (c : Dev nD) : Buf (Elt Ideal) ((c : Thread nD τ).loc main_v0_3) := (Cert.Mod.Run.dats (F := Ideal) m 0 c).arrAt 7 Cert.Mod.cfg0.N
def K8 (c : Dev nD) : Buf (Elt Ideal) ((c : Thread nD τ).loc main_v0_4) := (Cert.Mod.Run.dats (F := Ideal) m 0 c).arrAt 8 Cert.Mod.cfg0.N
def K9 (c : Dev nD) : Buf (Elt Ideal) ((c : Thread nD τ).loc main_v0_5) := (Cert.Mod.Run.dats (F := Ideal) m 0 c).arrAt 9 Cert.Mod.cfg0.N
def K10 (c : Dev nD) : Buf (Elt Ideal) ((c : Thread nD τ).loc main_v0_6) := (Cert.Mod.Run.dats (F := Ideal) m 0 c).arrAt 10 Cert.Mod.cfg0.N
def K11 (c : Dev nD) : Buf (Elt Ideal) ((c : Thread nD τ).loc main_v0_7) := (Cert.Mod.Run.dats (F := Ideal) m 0 c).arrAt 11 Cert.Mod.cfg0.N
def K12 (c : Dev nD) : Buf (Elt Ideal) ((c : Thread nD τ).loc main_v0_8) := (Cert.Mod.Run.dats (F := Ideal) m 0 c).arrAt 12 Cert.Mod.cfg0.N
def K13 (c : Dev nD) : Buf (Elt Ideal) ((c : Thread nD τ).loc main_v0_9) := (Cert.Mod.Run.dats (F := Ideal) m 0 c).arrAt 13 Cert.Mod.cfg0.N

theorem run_ideal : θ_run defs (onTc (τ := τ) (main (F := Ideal))) ⟨m, fun _ => 0, ρ⟩ (fun r => ∀ c : Dev nD,
      r.2.mem ((c.tc : Thread nD τ).loc main_v0_0) = K4 m c
      ∧ r.2.mem ((c.tc : Thread nD τ).loc main_v0_1) = K5 m c
      ∧ r.2.mem ((c.tc : Thread nD τ).loc main_v0_2) = K6 m c
      ∧ r.2.mem ((c.tc : Thread nD τ).loc main_v0_3) = K7 m c
      ∧ r.2.mem ((c.tc : Thread nD τ).loc main_v0_4) = K8 m c
      ∧ r.2.mem ((c.tc : Thread nD τ).loc main_v0_5) = K9 m c
      ∧ r.2.mem ((c.tc : Thread nD τ).loc main_v0_6) = K10 m c
      ∧ r.2.mem ((c.tc : Thread nD τ).loc main_v0_7) = K11 m c
      ∧ r.2.mem ((c.tc : Thread nD τ).loc main_v0_8) = K12 m c
      ∧ r.2.mem ((c.tc : Thread nD τ).loc main_v0_9) = K13 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h := Cert.Mod.Run.run_values (F := Ideal) m ρ
  rw [← defs_eq] at h
  exact h
end

/-! ## The equation -/

variable (m : (ℓ : Loc ModIdeal.nD ModIdeal.τ ModIdeal.sig) → Buf (Elt Ideal) ℓ)
  (m' : (ℓ : Loc ModReferenceIdeal.nD ModReferenceIdeal.τ ModReferenceIdeal.sig) → Buf (Elt Ideal) ℓ)

/-- The programs' arguments agree on device `c`. -/
abbrev Agree (c : Dev ModIdeal.nD) : Prop :=
  m' ((c.tc : Thread ModReferenceIdeal.nD ModReferenceIdeal.τ).loc ModReferenceIdeal.main_arg0) = m ((c.tc : Thread ModIdeal.nD ModIdeal.τ).loc ModIdeal.main_arg0)
  ∧ m' ((c.tc : Thread ModReferenceIdeal.nD ModReferenceIdeal.τ).loc ModReferenceIdeal.main_arg1) = m ((c.tc : Thread ModIdeal.nD ModIdeal.τ).loc ModIdeal.main_arg1)
  ∧ m' ((c.tc : Thread ModReferenceIdeal.nD ModReferenceIdeal.τ).loc ModReferenceIdeal.main_arg2) = m ((c.tc : Thread ModIdeal.nD ModIdeal.τ).loc ModIdeal.main_arg2)
  ∧ m' ((c.tc : Thread ModReferenceIdeal.nD ModReferenceIdeal.τ).loc ModReferenceIdeal.main_arg3) = m ((c.tc : Thread ModIdeal.nD ModIdeal.τ).loc ModIdeal.main_arg3)

variable {m m'} {c : Dev ModIdeal.nD} (e : Agree m m' c)
include e

/-- Then their entries, as the specification's arguments, are equal. -/
theorem args_eq : ModReferenceIdeal.Val.args m' c = Mod.Run.args m c := by
  obtain ⟨e0, e1, e2, e3⟩ := e
  unfold ModReferenceIdeal.Val.args
  rw [e0, e1, e2, e3]
  rfl

theorem eq4 : ModReferenceIdeal.Val.modR (F := Ideal) (m' ((c.tc : Thread ModReferenceIdeal.nD ModReferenceIdeal.τ).loc ModReferenceIdeal.main_arg0))
    (m' ((c.tc : Thread ModReferenceIdeal.nD ModReferenceIdeal.τ).loc ModReferenceIdeal.main_arg1))
    (m' ((c.tc : Thread ModReferenceIdeal.nD ModReferenceIdeal.τ).loc ModReferenceIdeal.main_arg2)) = K4 m c :=
  (ModReferenceIdeal.Val.R0_eq m' c).trans (by rw [args_eq e]; exact (Mod.Run.K4_eq m c).symm)

theorem eq5 : ModReferenceIdeal.Val.scaleR (F := Ideal) (m' ((c.tc : Thread ModReferenceIdeal.nD ModReferenceIdeal.τ).loc ModReferenceIdeal.main_arg3)) = K5 m c :=
  (ModReferenceIdeal.Val.R1_eq m' c).trans (by rw [args_eq e]; exact (Mod.Run.K5_eq m c).symm)

/-- A scale by itself, against the kernel's array of it. -/
theorem eqS (k : ℕ) (hs : ModReferenceIdeal.S8.Slices ![k] ModReferenceIdeal.S1) (hk : k < 8) {K : FVec Ideal ModReferenceIdeal.S1 .f32}
    (hK : K = fun _ => (Mod.Run.args m c).scale ⟨k, hk⟩) :
    extractStridedSlice ModReferenceIdeal.S1 ![k]
      (ModReferenceIdeal.Val.scaleR (F := Ideal) (m' ((c.tc : Thread ModReferenceIdeal.nD ModReferenceIdeal.τ).loc ModReferenceIdeal.main_arg3))) hs = K :=
  (ModReferenceIdeal.Val.RS_eq m' c k hs hk).trans (by rw [args_eq e, hK])

end Cert.Md

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Wgrad
public import proofs.«01_k».proof.Proof.Gen.Wgrad.Skeleton
public import proofs.«01_k».proof.Proof.Gen.Wgrad.Launch
public import proofs.«01_k».proof.Proof.Gen.Wgrad.Points
public import proofs.«01_k».proof.Proof.Gen.WgradIdeal
public import proofs.«01_k».proof.Proof.Gen.WgradIdeal.Skeleton
public import proofs.«01_k».proof.Proof.Gen.WgradIdeal.Launch
public import proofs.«01_k».proof.Proof.Gen.WgradIdeal.Points
public import proofs.«01_k».proof.Proof.Gen.WgradReferenceIdeal
public import proofs.«01_k».proof.Proof.Gen.WgradReferenceIdeal.Skeleton
public import proofs.«01_k».proof.Proof.Gen.WgradReferenceIdeal.Launch
public import proofs.«01_k».proof.Proof.Gen.WgradReferenceIdeal.Points
public import proofs.«01_k».proof.Proof.Gen.WgradReferenceIdeal.Frame
public import proofs.«01_k».proof.Proof.Gen.WgradReferenceIdeal.Value
public import proofs.«01_k».proof.Proof.Gen.Mod
public import proofs.«01_k».proof.Proof.Gen.Mod.Skeleton
public import proofs.«01_k».proof.Proof.Gen.Mod.Loops
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Loops
public import proofs.«01_k».proof.Proof.Gen.ModIdeal.Points
public import proofs.«01_k».proof.Proof.Gen.ModReferenceIdeal
public import proofs.«01_k».proof.Proof.Gen.ModReferenceIdeal.Run
public import proofs.«01_k».proof.Proof.Equation
public import proofs.«01_k».proof.Proof.Wgrad.Equation
public import proofs.«01_k».proof.Proof.Mod.Equation
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The programs terminate without fault, leave their arguments unchanged and every semaphore at zero. -/
theorem frame_k : Cert.quiescent_Kernel := fun m ρ _ => Cert.Kernel.Gen.frame m ρ
theorem frame_ki : Cert.quiescent_KernelIdeal := fun m ρ _ => Cert.KernelIdeal.Gen.frame m ρ
theorem frame_ri : Cert.quiescent_ReferenceIdeal := fun m ρ _ => Cert.ReferenceIdeal.Gen.frame m ρ

/-- The ideal kernel is the kernel: nothing was rewritten. -/
theorem preserves : Cert.preserves_Kernel_KernelIdeal := trivial

/-- Over the extended reals the kernel and the reference return the same seven arrays. -/
theorem algebraic : Cert.algebraic_KernelIdeal_ReferenceIdeal := by
  intro m g m' g' _ hagree
  refine ⟨Cert.KernelIdeal.Value.G8 m, Cert.KernelIdeal.Value.G9 m, Cert.KernelIdeal.Value.G10 m, Cert.KernelIdeal.Value.G11 m,
    Cert.KernelIdeal.Value.G12 m, Cert.KernelIdeal.Value.G13 m, Cert.KernelIdeal.Value.G14 m,
    Cert.KernelIdeal.Value.run m g, ?_⟩
  refine (θ_run Cert.ReferenceIdeal.defs _ _).mono (fun r h c => ?_) (Cert.ReferenceIdeal.Value.run_blocks m' g')
  obtain ⟨h8, h9, h10, h11, h12, h13, h14, kept⟩ := h c
  have e := hagree c
  exact ⟨h8.trans (Cert.Mlp.eq8 e), h9.trans (Cert.Mlp.eq9 e), h10.trans (Cert.Mlp.eq10 e), h11.trans (Cert.Mlp.eq11 e),
    h12.trans (Cert.Mlp.eq12 e), h13.trans (Cert.Mlp.eq13 e), h14.trans (Cert.Mlp.eq14 e), kept⟩

/-- The same of the weight gradients' programs. -/
theorem frame_w : Cert.quiescent_Wgrad := fun m ρ _ => Cert.Wgrad.Run.frame m ρ
theorem frame_wi : Cert.quiescent_WgradIdeal := Cert.Wg.frame_ideal
theorem frame_wri : Cert.quiescent_WgradReferenceIdeal := fun m ρ _ => Cert.WgradReferenceIdeal.Gen.frame m ρ

/-- The ideal kernel is the kernel: nothing was rewritten. -/
theorem preserves_w : Cert.preserves_Wgrad_WgradIdeal := trivial

/-- Over the extended reals the kernel and the reference return the same two gradients. -/
theorem algebraic_w : Cert.algebraic_WgradIdeal_WgradReferenceIdeal := by
  intro m g m' g' _ hagree
  refine ⟨Cert.Wg.K5 m, Cert.Wg.K6 m, Cert.Wg.run_ideal m g, ?_⟩
  refine (θ_run Cert.WgradReferenceIdeal.defs _ _).mono (fun r h c => ?_) (Cert.WgradReferenceIdeal.Value.run_blocks m' g')
  obtain ⟨h5, h6, kept⟩ := h c
  have e := hagree c
  exact ⟨h5.trans (Cert.Wg.eq5 e), h6.trans (Cert.Wg.eq6 e), kept⟩

/-- The same of the modulation's programs. -/
theorem frame_m : Cert.quiescent_Mod := fun m ρ _ => Cert.Mod.Run.frame m ρ
theorem frame_mi : Cert.quiescent_ModIdeal := Cert.Md.frame_ideal
theorem frame_mri : Cert.quiescent_ModReferenceIdeal := fun m ρ _ =>
  (θ_run Cert.ModReferenceIdeal.defs _ _).mono (fun r h =>
    ⟨fun c => let ⟨_, _, _, _, _, _, _, _, _, _, kept⟩ := h c; kept, sem_eq_zero_of_no_sems (by decide) r.2⟩)
    (Cert.ModReferenceIdeal.Value.run m ρ)

/-- The ideal kernel is the kernel: nothing was rewritten. -/
theorem preserves_m : Cert.preserves_Mod_ModIdeal := trivial

/-- Over the extended reals the kernel and the reference return the same modulation and the same scales. -/
theorem algebraic_m : Cert.algebraic_ModIdeal_ModReferenceIdeal := by
  intro m g m' g' _ hagree
  refine ⟨Cert.Md.K4 m, Cert.Md.K5 m, Cert.Md.K6 m, Cert.Md.K7 m, Cert.Md.K8 m,
    Cert.Md.K9 m, Cert.Md.K10 m, Cert.Md.K11 m, Cert.Md.K12 m, Cert.Md.K13 m, Cert.Md.run_ideal m g, ?_⟩
  refine (θ_run Cert.ModReferenceIdeal.defs _ _).mono (fun r h c => ?_) (Cert.ModReferenceIdeal.Value.run m' g')
  obtain ⟨h4, h5, h6, h7, h8, h9, h10, h11, h12, h13, kept⟩ := h c
  have e := hagree c
  obtain ⟨k6, k7, k8, k9, k10, k11, k12, k13⟩ := Cert.Mod.Run.KS_eq m c
  exact ⟨h4.trans (Cert.Md.eq4 e), h5.trans (Cert.Md.eq5 e), h6.trans (Cert.Md.eqS e 0 _ (by decide) k6),
    h7.trans (Cert.Md.eqS e 1 _ (by decide) k7), h8.trans (Cert.Md.eqS e 2 _ (by decide) k8),
    h9.trans (Cert.Md.eqS e 3 _ (by decide) k9), h10.trans (Cert.Md.eqS e 4 _ (by decide) k10),
    h11.trans (Cert.Md.eqS e 5 _ (by decide) k11), h12.trans (Cert.Md.eqS e 6 _ (by decide) k12),
    h13.trans (Cert.Md.eqS e 7 _ (by decide) k13), kept⟩

theorem claim : Cert.Claim := ⟨Cert.Kernel.Gen.facts, Cert.KernelIdeal.Gen.facts, Cert.ReferenceIdeal.Gen.facts,
  Cert.Wgrad.Gen.facts, Cert.WgradIdeal.Gen.facts, Cert.WgradReferenceIdeal.Gen.facts,
  Cert.Mod.Gen.facts, Cert.ModIdeal.Gen.facts, Cert.ModReferenceIdeal.Gen.facts,
  frame_k, frame_ki, frame_ri, frame_w, frame_wi, frame_wri, frame_m, frame_mi, frame_mri,
  preserves, algebraic, preserves_w, algebraic_w, preserves_m, algebraic_m⟩

end Cert.Proof

end
